-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "gradient_scale" .f32 0x36810182#32 ((1 / 260100 : ℝ) : EReal)
  ∧ IdealRules.named_const.Statement Cert.KernelIdeal.κ "product_scale" .f32 0x37010182#32 ((1 / 130050 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v431) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x256x256 : Shape := ⟨4, ![1, 1, 256, 256]⟩
abbrev S260x256 : Shape := ⟨2, ![260, 256]⟩
abbrev S260x512 : Shape := ⟨2, ![260, 512]⟩
abbrev S256x256 : Shape := ⟨2, ![256, 256]⟩
abbrev S1x256 : Shape := ⟨2, ![1, 256]⟩
abbrev S8x256 : Shape := ⟨2, ![8, 256]⟩
abbrev S272x256 : Shape := ⟨2, ![272, 256]⟩
abbrev S272x1 : Shape := ⟨2, ![272, 1]⟩
abbrev S272x8 : Shape := ⟨2, ![272, 8]⟩
abbrev S272x272 : Shape := ⟨2, ![272, 272]⟩
abbrev S1x2x256x256 : Shape := ⟨4, ![1, 2, 256, 256]⟩
abbrev S1x2x64x256 : Shape := ⟨4, ![1, 2, 64, 256]⟩
abbrev S80x272 : Shape := ⟨2, ![80, 272]⟩
abbrev S1x270 : Shape := ⟨2, ![1, 270]⟩
abbrev S80x1 : Shape := ⟨2, ![80, 1]⟩
abbrev S78x272 : Shape := ⟨2, ![78, 272]⟩
abbrev S78x270 : Shape := ⟨2, ![78, 270]⟩
abbrev S80x270 : Shape := ⟨2, ![80, 270]⟩
abbrev S70x272 : Shape := ⟨2, ![70, 272]⟩
abbrev S70x271 : Shape := ⟨2, ![70, 271]⟩
abbrev S70x1 : Shape := ⟨2, ![70, 1]⟩
abbrev S70x260 : Shape := ⟨2, ![70, 260]⟩
abbrev S70x256 : Shape := ⟨2, ![70, 256]⟩
abbrev S66x256 : Shape := ⟨2, ![66, 256]⟩
abbrev S70x512 : Shape := ⟨2, ![70, 512]⟩
abbrev S64x256 : Shape := ⟨2, ![64, 256]⟩
abbrev S64x1 : Shape := ⟨2, ![64, 1]⟩
abbrev S64x255 : Shape := ⟨2, ![64, 255]⟩
abbrev S1x1x64x256 : Shape := ⟨4, ![1, 1, 64, 256]⟩

abbrev nBuf : Space → Nat
  | .hbm => 27
  | .vmem => 6
  | .smem => 0
  | _ => 0

abbrev bufTy : (tb : Table) → Fin (tcTables nBuf tb) → BufTy
  | .hbm, ⟨0, _⟩ => ⟨S1x1x256x256, .f32⟩
  | .hbm, ⟨1, _⟩ => ⟨S1x1x256x256, .f32⟩
  | .hbm, ⟨2, _⟩ => ⟨S260x256, .bf16⟩
  | .hbm, ⟨3, _⟩ => ⟨S260x512, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S8x256, .f32⟩
  | .hbm, ⟨8, _⟩ => ⟨S8x256, .f32⟩
  | .hbm, ⟨9, _⟩ => ⟨S272x256, .f32⟩
  | .hbm, ⟨10, _⟩ => ⟨S272x1, .f32⟩
  | .hbm, ⟨11, _⟩ => ⟨S272x1, .f32⟩
  | .hbm, ⟨12, _⟩ => ⟨S272x8, .f32⟩
  | .hbm, ⟨13, _⟩ => ⟨S272x8, .f32⟩
  | .hbm, ⟨14, _⟩ => ⟨S272x272, .f32⟩
  | .hbm, ⟨15, _⟩ => ⟨S256x256, .f32⟩
  | .hbm, ⟨16, _⟩ => ⟨S1x256, .f32⟩
  | .hbm, ⟨17, _⟩ => ⟨S1x256, .f32⟩
  | .hbm, ⟨18, _⟩ => ⟨S8x256, .f32⟩
  | .hbm, ⟨19, _⟩ => ⟨S8x256, .f32⟩
  | .hbm, ⟨20, _⟩ => ⟨S272x256, .f32⟩
  | .hbm, ⟨21, _⟩ => ⟨S272x1, .f32⟩
  | .hbm, ⟨22, _⟩ => ⟨S272x1, .f32⟩
  | .hbm, ⟨23, _⟩ => ⟨S272x8, .f32⟩
  | .hbm, ⟨24, _⟩ => ⟨S272x8, .f32⟩
  | .hbm, ⟨25, _⟩ => ⟨S272x272, .f32⟩
  | .hbm, ⟨26, _⟩ => ⟨S1x2x256x256, .f32⟩
  | .local _ .vmem, ⟨0, _⟩ => ⟨S272x272, .f32⟩
  | .local _ .vmem, ⟨1, _⟩ => ⟨S272x272, .f32⟩
  | .local _ .vmem, ⟨2, _⟩ => ⟨S260x256, .bf16⟩
  | .local _ .vmem, ⟨3, _⟩ => ⟨S260x512, .f32⟩
  | .local _ .vmem, ⟨4, _⟩ => ⟨S1x2x64x256, .f32⟩
  | .local _ .vmem, ⟨5, _⟩ => ⟨S1x2x64x256, .f32⟩
  | _, _ => ⟨S1x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c64_i32 : BitVec 32 := 64#32
  let v0 : BitVec 32 := Scalar.muli arg0 c64_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S272x272 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S272x272 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S260x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S260x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "gradient_scale" => some ((1 / 260100 : ℝ) : EReal)
  | "product_scale" => some ((1 / 130050 : ℝ) : EReal)
  | _ => none
-- ==== ReferenceIdeal.lean ====
abbrev S1x1x256x256 : Shape := ⟨4, ![1, 1, 256, 256]⟩
abbrev S1x1x1 : Shape := ⟨3, ![1, 1, 1]⟩
abbrev S256x256 : Shape := ⟨2, ![256, 256]⟩
abbrev S1x256 : Shape := ⟨2, ![1, 256]⟩
abbrev S258x256 : Shape := ⟨2, ![258, 256]⟩
abbrev S258x1 : Shape := ⟨2, ![258, 1]⟩
abbrev S258x258 : Shape := ⟨2, ![258, 258]⟩
abbrev S256x258 : Shape := ⟨2, ![256, 258]⟩
abbrev S_ : Shape := ⟨0, ![]⟩
abbrev S260x260 : Shape := ⟨2, ![260, 260]⟩
abbrev S256x260 : Shape := ⟨2, ![256, 260]⟩
abbrev S256x260x1 : Shape := ⟨3, ![256, 260, 1]⟩
abbrev S256x260x5 : Shape := ⟨3, ![256, 260, 5]⟩
abbrev S256x256x5 : Shape := ⟨3, ![256, 256, 5]⟩
abbrev S256x256x5x1 : Shape := ⟨4, ![256, 256, 5, 1]⟩
abbrev S256x256x5x5 : Shape := ⟨4, ![256, 256, 5, 5]⟩
abbrev S266x266 : Shape := ⟨2, ![266, 266]⟩
abbrev S262x266 : Shape := ⟨2, ![262, 266]⟩
abbrev S262x266x1 : Shape := ⟨3, ![262, 266, 1]⟩
abbrev S262x266x5 : Shape := ⟨3, ![262, 266, 5]⟩
abbrev S262x262x5 : Shape := ⟨3, ![262, 262, 5]⟩
abbrev S262x262x5x1 : Shape := ⟨4, ![262, 262, 5, 1]⟩
abbrev S262x262x5x5 : Shape := ⟨4, ![262, 262, 5, 5]⟩
abbrev S1x256x256x5x5 : Shape := ⟨5, ![1, 256, 256, 5, 5]⟩
abbrev S7x256x256x5x5 : Shape := ⟨5, ![7, 256, 256, 5, 5]⟩
abbrev S49x256x256x5x5 : Shape := ⟨5, ![49, 256, 256, 5, 5]⟩
abbrev S49x256x256 : Shape := ⟨3, ![49, 256, 256]⟩
abbrev S49 : Shape := ⟨1, ![49]⟩
abbrev S49x1x1 : Shape := ⟨3, ![49, 1, 1]⟩
abbrev S1x256x256 : Shape := ⟨3, ![1, 256, 256]⟩
abbrev S49x256x256x1x1 : Shape := ⟨5, ![49, 256, 256, 1, 1]⟩
abbrev S7x1x1 : Shape := ⟨3, ![7, 1, 1]⟩
abbrev S3x3 : Shape := ⟨2, ![3, 3]⟩
abbrev S5x5 : Shape := ⟨2, ![5, 5]⟩
abbrev S1x1x5x5 : Shape := ⟨4, ![1, 1, 5, 5]⟩
abbrev S9x256x256 : Shape := ⟨3, ![9, 256, 256]⟩
abbrev S2x256x256 : Shape := ⟨3, ![2, 256, 256]⟩
abbrev S1x2x256x256 : Shape := ⟨4, ![1, 2, 256, 256]⟩

abbrev nBuf : Space → Nat
  | .hbm => 606
  | .vmem => 0
  | .smem => 0
  | _ => 0

abbrev hbmTy0_0 (i : Nat) : BufTy := match i % 128 with
  | 0 => ⟨S1x1x256x256, .f32⟩
  | 1 => ⟨S1x1x256x256, .f32⟩
  | 2 => ⟨S1x1x1, .f32⟩
  | 3 => ⟨S1x1x1, .f32⟩
  | 4 => ⟨S1x1x1, .f32⟩
  | 5 => ⟨S1x1x1, .f32⟩
  | 6 => ⟨S1x1x1, .f32⟩
  | 7 => ⟨S1x1x1, .f32⟩
  | 8 => ⟨S1x1x1, .f32⟩
  | 9 => ⟨S1x1x1, .f32⟩
  | 10 => ⟨S1x1x1, .f32⟩
  | 11 => ⟨S1x1x1, .f32⟩
  | 12 => ⟨S1x1x1, .f32⟩
  | 13 => ⟨S1x1x1, .f32⟩
  | 14 => ⟨S1x1x1, .f32⟩
  | 15 => ⟨S1x1x1, .f32⟩
  | 16 => ⟨S1x1x1, .f32⟩
  | 17 => ⟨S1x1x1, .f32⟩
  | 18 => ⟨S1x1x1, .f32⟩
  | 19 => ⟨S1x1x1, .f32⟩
  | 20 => ⟨S1x1x1, .f32⟩
  | 21 => ⟨S1x1x1, .f32⟩
  | 22 => ⟨S1x1x1, .f32⟩
  | 23 => ⟨S1x1x1, .f32⟩
  | 24 => ⟨S1x1x1, .f32⟩
  | 25 => ⟨S1x1x1, .f32⟩
  | 26 => ⟨S1x1x1, .f32⟩
  | 27 => ⟨S1x1x1, .f32⟩
  | 28 => ⟨S1x1x1, .f32⟩
  | 29 => ⟨S1x1x1, .f32⟩
  | 30 => ⟨S1x1x1, .f32⟩
  | 31 => ⟨S1x1x1, .f32⟩
  | 32 => ⟨S1x1x1, .f32⟩
  | 33 => ⟨S1x1x1, .f32⟩
  | 34 => ⟨S1x1x1, .f32⟩
  | 35 => ⟨S1x1x1, .f32⟩
  | 36 => ⟨S1x1x1, .f32⟩
  | 37 => ⟨S1x1x1, .f32⟩
  | 38 => ⟨S1x1x1, .f32⟩
  | 39 => ⟨S1x1x1, .f32⟩
  | 40 => ⟨S1x1x1, .f32⟩
  | 41 => ⟨S1x1x1, .f32⟩
  | 42 => ⟨S1x1x1, .f32⟩
  | 43 => ⟨S1x1x1, .f32⟩
  | 44 => ⟨S1x1x1, .f32⟩
  | 45 => ⟨S1x1x1, .f32⟩
  | 46 => ⟨S1x1x1, .f32⟩
  | 47 => ⟨S1x1x1, .f32⟩
  | 48 => ⟨S1x1x1, .f32⟩
  | 49 => ⟨S1x1x1, .f32⟩
  | 50 => ⟨S1x1x1, .f32⟩
  | 51 => ⟨S1x1x1, .f32⟩
  | 52 => ⟨S1x1x1, .f32⟩
  | 53 => ⟨S1x1x1, .f32⟩
  | 54 => ⟨S1x1x1, .f32⟩
  | 55 => ⟨S1x1x1, .f32⟩
  | 56 => ⟨S1x1x1, .f32⟩
  | 57 => ⟨S1x1x1, .f32⟩
  | 58 => ⟨S1x1x1, .f32⟩
  | 59 => ⟨S1x1x1, .f32⟩
  | 60 => ⟨S1x1x1, .f32⟩
  | 61 => ⟨S1x1x1, .f32⟩
  | 62 => ⟨S1x1x1, .f32⟩
  | 63 => ⟨S1x1x1, .f32⟩
  | 64 => ⟨S1x1x1, .f32⟩
  | 65 => ⟨S1x1x1, .f32⟩
  | 66 => ⟨S1x1x1, .f32⟩
  | 67 => ⟨S1x1x1, .f32⟩
  | 68 => ⟨S1x1x1, .f32⟩
  | 69 => ⟨S1x1x1, .f32⟩
  | 70 => ⟨S1x1x1, .f32⟩
  | 71 => ⟨S1x1x1, .f32⟩
  | 72 => ⟨S1x1x1, .f32⟩
  | 73 => ⟨S1x1x1, .f32⟩
  | 74 => ⟨S1x1x1, .f32⟩
  | 75 => ⟨S1x1x1, .f32⟩
  | 76 => ⟨S1x1x1, .f32⟩
  | 77 => ⟨S1x1x1, .f32⟩
  | 78 => ⟨S1x1x1, .f32⟩
  | 79 => ⟨S1x1x1, .f32⟩
  | 80 => ⟨S1x1x1, .f32⟩
  | 81 => ⟨S1x1x1, .f32⟩
  | 82 => ⟨S1x1x1, .f32⟩
  | 83 => ⟨S1x1x1, .f32⟩
  | 84 => ⟨S1x1x1, .f32⟩
  | 85 => ⟨S1x1x1, .f32⟩
  | 86 => ⟨S1x1x1, .f32⟩
  | 87 => ⟨S1x1x1, .f32⟩
  | 88 => ⟨S1x1x1, .f32⟩
  | 89 => ⟨S1x1x1, .f32⟩
  | 90 => ⟨S1x1x1, .f32⟩
  | 91 => ⟨S1x1x1, .f32⟩
  | 92 => ⟨S1x1x1, .f32⟩
  | 93 => ⟨S1x1x1, .f32⟩
  | 94 => ⟨S1x1x1, .f32⟩
  | 95 => ⟨S1x1x1, .f32⟩
  | 96 => ⟨S1x1x1, .f32⟩
  | 97 => ⟨S1x1x1, .f32⟩
  | 98 => ⟨S1x1x1, .f32⟩
  | 99 => ⟨S1x1x1, .f32⟩
  | 100 => ⟨S256x256, .f32⟩
  | 101 => ⟨S1x256, .f32⟩
  | 102 => ⟨S1x256, .f32⟩
  | 103 => ⟨S258x256, .f32⟩
  | 104 => ⟨S258x1, .f32⟩
  | 105 => ⟨S258x1, .f32⟩
  | 106 => ⟨S258x258, .f32⟩
  | 107 => ⟨S256x258, .f32⟩
  | 108 => ⟨S256x258, .f32⟩
  | 109 => ⟨S_, .f32⟩
  | 110 => ⟨S256x258, .f32⟩
  | 111 => ⟨S256x258, .f32⟩
  | 112 => ⟨S256x258, .f32⟩
  | 113 => ⟨S256x258, .f32⟩
  | 114 => ⟨S256x258, .f32⟩
  | 115 => ⟨S_, .f32⟩
  | 116 => ⟨S256x258, .f32⟩
  | 117 => ⟨S256x258, .f32⟩
  | 118 => ⟨S256x256, .f32⟩
  | 119 => ⟨S256x256, .f32⟩
  | 120 => ⟨S_, .f32⟩
  | 121 => ⟨S256x256, .f32⟩
  | 122 => ⟨S256x256, .f32⟩
  | 123 => ⟨S256x256, .f32⟩
  | 124 => ⟨S256x256, .f32⟩
  | 125 => ⟨S256x256, .f32⟩
  | 126 => ⟨S_, .f32⟩
  | 127 => ⟨S256x256, .f32⟩
  | _ => ⟨S1x1x256x256, .f32⟩

abbrev hbmTy0_1 (i : Nat) : BufTy := match i % 128 with
  | 0 => ⟨S256x256, .f32⟩
  | 1 => ⟨S_, .f32⟩
  | 2 => ⟨S256x256, .f32⟩
  | 3 => ⟨S256x256, .f32⟩
  | 4 => ⟨S256x256, .f32⟩
  | 5 => ⟨S_, .f32⟩
  | 6 => ⟨S_, .f32⟩
  | 7 => ⟨S_, .f32⟩
  | 8 => ⟨S256x256, .f32⟩
  | 9 => ⟨S256x256, .f32⟩
  | 10 => ⟨S_, .f32⟩
  | 11 => ⟨S256x256, .f32⟩
  | 12 => ⟨S256x256, .f32⟩
  | 13 => ⟨S256x256, .f32⟩
  | 14 => ⟨S1x256, .f32⟩
  | 15 => ⟨S1x256, .f32⟩
  | 16 => ⟨S258x256, .f32⟩
  | 17 => ⟨S258x1, .f32⟩
  | 18 => ⟨S258x1, .f32⟩
  | 19 => ⟨S258x258, .f32⟩
  | 20 => ⟨S256x258, .f32⟩
  | 21 => ⟨S256x258, .f32⟩
  | 22 => ⟨S_, .f32⟩
  | 23 => ⟨S256x258, .f32⟩
  | 24 => ⟨S256x258, .f32⟩
  | 25 => ⟨S256x258, .f32⟩
  | 26 => ⟨S256x258, .f32⟩
  | 27 => ⟨S256x258, .f32⟩
  | 28 => ⟨S_, .f32⟩
  | 29 => ⟨S256x258, .f32⟩
  | 30 => ⟨S256x258, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S_, .f32⟩
  | 43 => ⟨S256x256, .f32⟩
  | 44 => ⟨S256x256, .f32⟩
  | 45 => ⟨S256x256, .f32⟩
  | 46 => ⟨S_, .f32⟩
  | 47 => ⟨S_, .f32⟩
  | 48 => ⟨S_, .f32⟩
  | 49 => ⟨S256x256, .f32⟩
  | 50 => ⟨S256x256, .f32⟩
  | 51 => ⟨S_, .f32⟩
  | 52 => ⟨S256x256, .f32⟩
  | 53 => ⟨S256x256, .f32⟩
  | 54 => ⟨S_, .f32⟩
  | 55 => ⟨S260x260, .f32⟩
  | 56 => ⟨S256x260, .f32⟩
  | 57 => ⟨S256x260, .f32⟩
  | 58 => ⟨S256x260, .f32⟩
  | 59 => ⟨S256x260, .f32⟩
  | 60 => ⟨S256x260, .f32⟩
  | 61 => ⟨S256x260x1, .f32⟩
  | 62 => ⟨S256x260x1, .f32⟩
  | 63 => ⟨S256x260x1, .f32⟩
  | 64 => ⟨S256x260x1, .f32⟩
  | 65 => ⟨S256x260x1, .f32⟩
  | 66 => ⟨S256x260x5, .f32⟩
  | 67 => ⟨S256x256x5, .f32⟩
  | 68 => ⟨S256x256x5, .f32⟩
  | 69 => ⟨S256x256x5, .f32⟩
  | 70 => ⟨S256x256x5, .f32⟩
  | 71 => ⟨S256x256x5, .f32⟩
  | 72 => ⟨S256x256x5x1, .f32⟩
  | 73 => ⟨S256x256x5x1, .f32⟩
  | 74 => ⟨S256x256x5x1, .f32⟩
  | 75 => ⟨S256x256x5x1, .f32⟩
  | 76 => ⟨S256x256x5x1, .f32⟩
  | 77 => ⟨S256x256x5x5, .f32⟩
  | 78 => ⟨S_, .f32⟩
  | 79 => ⟨S266x266, .f32⟩
  | 80 => ⟨S262x266, .f32⟩
  | 81 => ⟨S262x266, .f32⟩
  | 82 => ⟨S262x266, .f32⟩
  | 83 => ⟨S262x266, .f32⟩
  | 84 => ⟨S262x266, .f32⟩
  | 85 => ⟨S262x266x1, .f32⟩
  | 86 => ⟨S262x266x1, .f32⟩
  | 87 => ⟨S262x266x1, .f32⟩
  | 88 => ⟨S262x266x1, .f32⟩
  | 89 => ⟨S262x266x1, .f32⟩
  | 90 => ⟨S262x266x5, .f32⟩
  | 91 => ⟨S262x262x5, .f32⟩
  | 92 => ⟨S262x262x5, .f32⟩
  | 93 => ⟨S262x262x5, .f32⟩
  | 94 => ⟨S262x262x5, .f32⟩
  | 95 => ⟨S262x262x5, .f32⟩
  | 96 => ⟨S262x262x5x1, .f32⟩
  | 97 => ⟨S262x262x5x1, .f32⟩
  | 98 => ⟨S262x262x5x1, .f32⟩
  | 99 => ⟨S262x262x5x1, .f32⟩
  | 100 => ⟨S262x262x5x1, .f32⟩
  | 101 => ⟨S262x262x5x5, .f32⟩
  | 102 => ⟨S256x256x5x5, .f32⟩
  | 103 => ⟨S1x256x256x5x5, .f32⟩
  | 104 => ⟨S256x256x5x5, .f32⟩
  | 105 => ⟨S1x256x256x5x5, .f32⟩
  | 106 => ⟨S256x256x5x5, .f32⟩
  | 107 => ⟨S1x256x256x5x5, .f32⟩
  | 108 => ⟨S256x256x5x5, .f32⟩
  | 109 => ⟨S1x256x256x5x5, .f32⟩
  | 110 => ⟨S256x256x5x5, .f32⟩
  | 111 => ⟨S1x256x256x5x5, .f32⟩
  | 112 => ⟨S256x256x5x5, .f32⟩
  | 113 => ⟨S1x256x256x5x5, .f32⟩
  | 114 => ⟨S256x256x5x5, .f32⟩
  | 115 => ⟨S1x256x256x5x5, .f32⟩
  | 116 => ⟨S256x256x5x5, .f32⟩
  | 117 => ⟨S1x256x256x5x5, .f32⟩
  | 118 => ⟨S256x256x5x5, .f32⟩
  | 119 => ⟨S1x256x256x5x5, .f32⟩
  | 120 => ⟨S256x256x5x5, .f32⟩
  | 121 => ⟨S1x256x256x5x5, .f32⟩
  | 122 => ⟨S256x256x5x5, .f32⟩
  | 123 => ⟨S1x256x256x5x5, .f32⟩
  | 124 => ⟨S256x256x5x5, .f32⟩
  | 125 => ⟨S1x256x256x5x5, .f32⟩
  | 126 => ⟨S256x256x5x5, .f32⟩
  | 127 => ⟨S1x256x256x5x5, .f32⟩
  | _ => ⟨S1x1x256x256, .f32⟩

abbrev hbmTy0_2 (i : Nat) : BufTy := match i % 128 with
  | 0 => ⟨S256x256x5x5, .f32⟩
  | 1 => ⟨S1x256x256x5x5, .f32⟩
  | 2 => ⟨S256x256x5x5, .f32⟩
  | 3 => ⟨S1x256x256x5x5, .f32⟩
  | 4 => ⟨S256x256x5x5, .f32⟩
  | 5 => ⟨S1x256x256x5x5, .f32⟩
  | 6 => ⟨S256x256x5x5, .f32⟩
  | 7 => ⟨S1x256x256x5x5, .f32⟩
  | 8 => ⟨S256x256x5x5, .f32⟩
  | 9 => ⟨S1x256x256x5x5, .f32⟩
  | 10 => ⟨S256x256x5x5, .f32⟩
  | 11 => ⟨S1x256x256x5x5, .f32⟩
  | 12 => ⟨S256x256x5x5, .f32⟩
  | 13 => ⟨S1x256x256x5x5, .f32⟩
  | 14 => ⟨S256x256x5x5, .f32⟩
  | 15 => ⟨S1x256x256x5x5, .f32⟩
  | 16 => ⟨S256x256x5x5, .f32⟩
  | 17 => ⟨S1x256x256x5x5, .f32⟩
  | 18 => ⟨S256x256x5x5, .f32⟩
  | 19 => ⟨S1x256x256x5x5, .f32⟩
  | 20 => ⟨S256x256x5x5, .f32⟩
  | 21 => ⟨S1x256x256x5x5, .f32⟩
  | 22 => ⟨S256x256x5x5, .f32⟩
  | 23 => ⟨S1x256x256x5x5, .f32⟩
  | 24 => ⟨S256x256x5x5, .f32⟩
  | 25 => ⟨S1x256x256x5x5, .f32⟩
  | 26 => ⟨S256x256x5x5, .f32⟩
  | 27 => ⟨S1x256x256x5x5, .f32⟩
  | 28 => ⟨S256x256x5x5, .f32⟩
  | 29 => ⟨S1x256x256x5x5, .f32⟩
  | 30 => ⟨S256x256x5x5, .f32⟩
  | 31 => ⟨S1x256x256x5x5, .f32⟩
  | 32 => ⟨S256x256x5x5, .f32⟩
  | 33 => ⟨S1x256x256x5x5, .f32⟩
  | 34 => ⟨S256x256x5x5, .f32⟩
  | 35 => ⟨S1x256x256x5x5, .f32⟩
  | 36 => ⟨S256x256x5x5, .f32⟩
  | 37 => ⟨S1x256x256x5x5, .f32⟩
  | 38 => ⟨S256x256x5x5, .f32⟩
  | 39 => ⟨S1x256x256x5x5, .f32⟩
  | 40 => ⟨S256x256x5x5, .f32⟩
  | 41 => ⟨S1x256x256x5x5, .f32⟩
  | 42 => ⟨S256x256x5x5, .f32⟩
  | 43 => ⟨S1x256x256x5x5, .f32⟩
  | 44 => ⟨S256x256x5x5, .f32⟩
  | 45 => ⟨S1x256x256x5x5, .f32⟩
  | 46 => ⟨S256x256x5x5, .f32⟩
  | 47 => ⟨S1x256x256x5x5, .f32⟩
  | 48 => ⟨S256x256x5x5, .f32⟩
  | 49 => ⟨S1x256x256x5x5, .f32⟩
  | 50 => ⟨S256x256x5x5, .f32⟩
  | 51 => ⟨S1x256x256x5x5, .f32⟩
  | 52 => ⟨S256x256x5x5, .f32⟩
  | 53 => ⟨S1x256x256x5x5, .f32⟩
  | 54 => ⟨S256x256x5x5, .f32⟩
  | 55 => ⟨S1x256x256x5x5, .f32⟩
  | 56 => ⟨S256x256x5x5, .f32⟩
  | 57 => ⟨S1x256x256x5x5, .f32⟩
  | 58 => ⟨S256x256x5x5, .f32⟩
  | 59 => ⟨S1x256x256x5x5, .f32⟩
  | 60 => ⟨S256x256x5x5, .f32⟩
  | 61 => ⟨S1x256x256x5x5, .f32⟩
  | 62 => ⟨S256x256x5x5, .f32⟩
  | 63 => ⟨S1x256x256x5x5, .f32⟩
  | 64 => ⟨S256x256x5x5, .f32⟩
  | 65 => ⟨S1x256x256x5x5, .f32⟩
  | 66 => ⟨S256x256x5x5, .f32⟩
  | 67 => ⟨S1x256x256x5x5, .f32⟩
  | 68 => ⟨S256x256x5x5, .f32⟩
  | 69 => ⟨S1x256x256x5x5, .f32⟩
  | 70 => ⟨S256x256x5x5, .f32⟩
  | 71 => ⟨S1x256x256x5x5, .f32⟩
  | 72 => ⟨S7x256x256x5x5, .f32⟩
  | 73 => ⟨S7x256x256x5x5, .f32⟩
  | 74 => ⟨S7x256x256x5x5, .f32⟩
  | 75 => ⟨S7x256x256x5x5, .f32⟩
  | 76 => ⟨S7x256x256x5x5, .f32⟩
  | 77 => ⟨S7x256x256x5x5, .f32⟩
  | 78 => ⟨S7x256x256x5x5, .f32⟩
  | 79 => ⟨S49x256x256x5x5, .f32⟩
  | 80 => ⟨S1x256x256x5x5, .f32⟩
  | 81 => ⟨S49x256x256x5x5, .f32⟩
  | 82 => ⟨S49x256x256x5x5, .f32⟩
  | 83 => ⟨S49x256x256x5x5, .f32⟩
  | 84 => ⟨S_, .f32⟩
  | 85 => ⟨S49x256x256, .f32⟩
  | 86 => ⟨S49, .i32⟩
  | 87 => ⟨S49x1x1, .i32⟩
  | 88 => ⟨S_, .f32⟩
  | 89 => ⟨S256x256, .f32⟩
  | 90 => ⟨S1x256x256, .f32⟩
  | 91 => ⟨S49x256x256, .f32⟩
  | 92 => ⟨S49x256x256, .i1⟩
  | 93 => ⟨S_, .i32⟩
  | 94 => ⟨S_, .i32⟩
  | 95 => ⟨S49x256x256, .i32⟩
  | 96 => ⟨S49x256x256, .i32⟩
  | 97 => ⟨S49x256x256, .i32⟩
  | 98 => ⟨S_, .i32⟩
  | 99 => ⟨S256x256, .i32⟩
  | 100 => ⟨S1x256x256, .i32⟩
  | 101 => ⟨S49x256x256, .i32⟩
  | 102 => ⟨S49x256x256, .i32⟩
  | 103 => ⟨S49x256x256, .i1⟩
  | 104 => ⟨S49x256x256x1x1, .i1⟩
  | 105 => ⟨S_, .f32⟩
  | 106 => ⟨S_, .f32⟩
  | 107 => ⟨S49x256x256x5x5, .i1⟩
  | 108 => ⟨S49x256x256x5x5, .f32⟩
  | 109 => ⟨S49x256x256x5x5, .f32⟩
  | 110 => ⟨S_, .f32⟩
  | 111 => ⟨S256x256x5x5, .f32⟩
  | 112 => ⟨S7x1x1, .f32⟩
  | 113 => ⟨S7x1x1, .f32⟩
  | 114 => ⟨S7x1x1, .f32⟩
  | 115 => ⟨S7x1x1, .f32⟩
  | 116 => ⟨S7x1x1, .f32⟩
  | 117 => ⟨S7x1x1, .f32⟩
  | 118 => ⟨S7x1x1, .f32⟩
  | 119 => ⟨S49x1x1, .f32⟩
  | 120 => ⟨S_, .f32⟩
  | 121 => ⟨S_, .f32⟩
  | 122 => ⟨S49x256x256, .f32⟩
  | 123 => ⟨S49x256x256, .f32⟩
  | 124 => ⟨S49x256x256, .f32⟩
  | 125 => ⟨S_, .f32⟩
  | 126 => ⟨S256x256, .f32⟩
  | 127 => ⟨S7x1x1, .f32⟩
  | _ => ⟨S1x1x256x256, .f32⟩

abbrev hbmTy0_3 (i : Nat) : BufTy := match i % 128 with
  | 0 => ⟨S7x1x1, .f32⟩
  | 1 => ⟨S7x1x1, .f32⟩
  | 2 => ⟨S7x1x1, .f32⟩
  | 3 => ⟨S7x1x1, .f32⟩
  | 4 => ⟨S7x1x1, .f32⟩
  | 5 => ⟨S7x1x1, .f32⟩
  | 6 => ⟨S49x1x1, .f32⟩
  | 7 => ⟨S_, .f32⟩
  | 8 => ⟨S_, .f32⟩
  | 9 => ⟨S49x256x256, .f32⟩
  | 10 => ⟨S49x256x256, .f32⟩
  | 11 => ⟨S49x256x256, .f32⟩
  | 12 => ⟨S_, .f32⟩
  | 13 => ⟨S256x256, .f32⟩
  | 14 => ⟨S_, .f32⟩
  | 15 => ⟨S256x256x5x5, .f32⟩
  | 16 => ⟨S256x256x5x5, .f32⟩
  | 17 => ⟨S_, .f32⟩
  | 18 => ⟨S256x256x5x5, .f32⟩
  | 19 => ⟨S256x256x5x5, .f32⟩
  | 20 => ⟨S_, .f32⟩
  | 21 => ⟨S256x256, .f32⟩
  | 22 => ⟨S256x256, .f32⟩
  | 23 => ⟨S1x256, .f32⟩
  | 24 => ⟨S1x256, .f32⟩
  | 25 => ⟨S258x256, .f32⟩
  | 26 => ⟨S258x1, .f32⟩
  | 27 => ⟨S258x1, .f32⟩
  | 28 => ⟨S258x258, .f32⟩
  | 29 => ⟨S256x256, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S_, .f32⟩
  | 39 => ⟨S256x256, .f32⟩
  | 40 => ⟨S256x256, .f32⟩
  | 41 => ⟨S_, .f32⟩
  | 42 => ⟨S260x260, .f32⟩
  | 43 => ⟨S256x260, .f32⟩
  | 44 => ⟨S256x260, .f32⟩
  | 45 => ⟨S256x260, .f32⟩
  | 46 => ⟨S256x260, .f32⟩
  | 47 => ⟨S256x260, .f32⟩
  | 48 => ⟨S256x260x1, .f32⟩
  | 49 => ⟨S256x260x1, .f32⟩
  | 50 => ⟨S256x260x1, .f32⟩
  | 51 => ⟨S256x260x1, .f32⟩
  | 52 => ⟨S256x260x1, .f32⟩
  | 53 => ⟨S256x260x5, .f32⟩
  | 54 => ⟨S256x256x5, .f32⟩
  | 55 => ⟨S256x256x5, .f32⟩
  | 56 => ⟨S256x256x5, .f32⟩
  | 57 => ⟨S256x256x5, .f32⟩
  | 58 => ⟨S256x256x5, .f32⟩
  | 59 => ⟨S256x256x5x1, .f32⟩
  | 60 => ⟨S256x256x5x1, .f32⟩
  | 61 => ⟨S256x256x5x1, .f32⟩
  | 62 => ⟨S256x256x5x1, .f32⟩
  | 63 => ⟨S256x256x5x1, .f32⟩
  | 64 => ⟨S256x256x5x5, .f32⟩
  | 65 => ⟨S_, .f32⟩
  | 66 => ⟨S260x260, .f32⟩
  | 67 => ⟨S256x260, .f32⟩
  | 68 => ⟨S256x260, .f32⟩
  | 69 => ⟨S256x260, .f32⟩
  | 70 => ⟨S256x260, .f32⟩
  | 71 => ⟨S256x260, .f32⟩
  | 72 => ⟨S256x260x1, .f32⟩
  | 73 => ⟨S256x260x1, .f32⟩
  | 74 => ⟨S256x260x1, .f32⟩
  | 75 => ⟨S256x260x1, .f32⟩
  | 76 => ⟨S256x260x1, .f32⟩
  | 77 => ⟨S256x260x5, .f32⟩
  | 78 => ⟨S256x256x5, .f32⟩
  | 79 => ⟨S256x256x5, .f32⟩
  | 80 => ⟨S256x256x5, .f32⟩
  | 81 => ⟨S256x256x5, .f32⟩
  | 82 => ⟨S256x256x5, .f32⟩
  | 83 => ⟨S256x256x5x1, .f32⟩
  | 84 => ⟨S256x256x5x1, .f32⟩
  | 85 => ⟨S256x256x5x1, .f32⟩
  | 86 => ⟨S256x256x5x1, .f32⟩
  | 87 => ⟨S256x256x5x1, .f32⟩
  | 88 => ⟨S256x256x5x5, .f32⟩
  | 89 => ⟨S_, .f32⟩
  | 90 => ⟨S3x3, .f32⟩
  | 91 => ⟨S_, .f32⟩
  | 92 => ⟨S5x5, .f32⟩
  | 93 => ⟨S256x256x5x5, .f32⟩
  | 94 => ⟨S1x1x5x5, .f32⟩
  | 95 => ⟨S256x256x5x5, .f32⟩
  | 96 => ⟨S256x256x5x5, .f32⟩
  | 97 => ⟨S_, .f32⟩
  | 98 => ⟨S256x256, .f32⟩
  | 99 => ⟨S256x256x5x5, .f32⟩
  | 100 => ⟨S1x1x5x5, .f32⟩
  | 101 => ⟨S256x256x5x5, .f32⟩
  | 102 => ⟨S256x256x5x5, .f32⟩
  | 103 => ⟨S_, .f32⟩
  | 104 => ⟨S256x256, .f32⟩
  | 105 => ⟨S256x256x5x5, .f32⟩
  | 106 => ⟨S1x1x5x5, .f32⟩
  | 107 => ⟨S256x256x5x5, .f32⟩
  | 108 => ⟨S256x256x5x5, .f32⟩
  | 109 => ⟨S_, .f32⟩
  | 110 => ⟨S256x256, .f32⟩
  | 111 => ⟨S256x256x5x5, .f32⟩
  | 112 => ⟨S256x256x5x5, .f32⟩
  | 113 => ⟨S1x1x5x5, .f32⟩
  | 114 => ⟨S256x256x5x5, .f32⟩
  | 115 => ⟨S256x256x5x5, .f32⟩
  | 116 => ⟨S_, .f32⟩
  | 117 => ⟨S256x256, .f32⟩
  | 118 => ⟨S256x256x5x5, .f32⟩
  | 119 => ⟨S1x1x5x5, .f32⟩
  | 120 => ⟨S256x256x5x5, .f32⟩
  | 121 => ⟨S256x256x5x5, .f32⟩
  | 122 => ⟨S_, .f32⟩
  | 123 => ⟨S256x256, .f32⟩
  | 124 => ⟨S256x256, .f32⟩
  | 125 => ⟨S256x256, .f32⟩
  | 126 => ⟨S256x256, .f32⟩
  | 127 => ⟨S_, .f32⟩
  | _ => ⟨S1x1x256x256, .f32⟩

abbrev hbmTy0_4 (i : Nat) : BufTy := match i % 128 with
  | 0 => ⟨S256x256, .f32⟩
  | 1 => ⟨S256x256, .i1⟩
  | 2 => ⟨S_, .f32⟩
  | 3 => ⟨S_, .f32⟩
  | 4 => ⟨S256x256, .f32⟩
  | 5 => ⟨S256x256, .f32⟩
  | 6 => ⟨S256x256, .f32⟩
  | 7 => ⟨S256x256, .f32⟩
  | 8 => ⟨S256x256, .f32⟩
  | 9 => ⟨S256x256, .f32⟩
  | 10 => ⟨S256x256, .f32⟩
  | 11 => ⟨S256x256, .f32⟩
  | 12 => ⟨S256x256, .f32⟩
  | 13 => ⟨S256x256, .f32⟩
  | 14 => ⟨S256x256, .f32⟩
  | 15 => ⟨S_, .f32⟩
  | 16 => ⟨S256x256, .f32⟩
  | 17 => ⟨S256x256, .i1⟩
  | 18 => ⟨S256x256, .i1⟩
  | 19 => ⟨S_, .f32⟩
  | 20 => ⟨S_, .f32⟩
  | 21 => ⟨S256x256, .f32⟩
  | 22 => ⟨S256x256, .f32⟩
  | 23 => ⟨S256x256, .f32⟩
  | 24 => ⟨S_, .f32⟩
  | 25 => ⟨S256x256, .f32⟩
  | 26 => ⟨S256x256, .i1⟩
  | 27 => ⟨S256x256, .i1⟩
  | 28 => ⟨S_, .f32⟩
  | 29 => ⟨S_, .f32⟩
  | 30 => ⟨S256x256, .f32⟩
  | 31 => ⟨S256x256, .f32⟩
  | 32 => ⟨S256x256, .f32⟩
  | 33 => ⟨S1x256, .f32⟩
  | 34 => ⟨S1x256, .f32⟩
  | 35 => ⟨S258x256, .f32⟩
  | 36 => ⟨S258x1, .f32⟩
  | 37 => ⟨S258x1, .f32⟩
  | 38 => ⟨S258x258, .f32⟩
  | 39 => ⟨S256x256, .f32⟩
  | 40 => ⟨S256x256, .f32⟩
  | 41 => ⟨S256x256, .f32⟩
  | 42 => ⟨S256x256, .f32⟩
  | 43 => ⟨S256x256, .f32⟩
  | 44 => ⟨S256x256, .f32⟩
  | 45 => ⟨S256x256, .f32⟩
  | 46 => ⟨S256x256, .f32⟩
  | 47 => ⟨S256x256, .f32⟩
  | 48 => ⟨S1x256x256, .f32⟩
  | 49 => ⟨S1x256x256, .f32⟩
  | 50 => ⟨S1x256x256, .f32⟩
  | 51 => ⟨S1x256x256, .f32⟩
  | 52 => ⟨S1x256x256, .f32⟩
  | 53 => ⟨S1x256x256, .f32⟩
  | 54 => ⟨S1x256x256, .f32⟩
  | 55 => ⟨S1x256x256, .f32⟩
  | 56 => ⟨S1x256x256, .f32⟩
  | 57 => ⟨S9x256x256, .f32⟩
  | 58 => ⟨S9x256x256, .f32⟩
  | 59 => ⟨S1x256x256, .f32⟩
  | 60 => ⟨S256x256, .f32⟩
  | 61 => ⟨S256x256, .f32⟩
  | 62 => ⟨S1x256, .f32⟩
  | 63 => ⟨S1x256, .f32⟩
  | 64 => ⟨S258x256, .f32⟩
  | 65 => ⟨S258x1, .f32⟩
  | 66 => ⟨S258x1, .f32⟩
  | 67 => ⟨S258x258, .f32⟩
  | 68 => ⟨S256x256, .f32⟩
  | 69 => ⟨S256x256, .f32⟩
  | 70 => ⟨S256x256, .f32⟩
  | 71 => ⟨S256x256, .f32⟩
  | 72 => ⟨S256x256, .f32⟩
  | 73 => ⟨S256x256, .f32⟩
  | 74 => ⟨S256x256, .f32⟩
  | 75 => ⟨S256x256, .f32⟩
  | 76 => ⟨S256x256, .f32⟩
  | 77 => ⟨S1x256x256, .f32⟩
  | 78 => ⟨S1x256x256, .f32⟩
  | 79 => ⟨S1x256x256, .f32⟩
  | 80 => ⟨S1x256x256, .f32⟩
  | 81 => ⟨S1x256x256, .f32⟩
  | 82 => ⟨S1x256x256, .f32⟩
  | 83 => ⟨S1x256x256, .f32⟩
  | 84 => ⟨S1x256x256, .f32⟩
  | 85 => ⟨S1x256x256, .f32⟩
  | 86 => ⟨S9x256x256, .f32⟩
  | 87 => ⟨S9x256x256, .f32⟩
  | 88 => ⟨S1x256x256, .f32⟩
  | 89 => ⟨S256x256, .f32⟩
  | 90 => ⟨S1x256x256, .f32⟩
  | 91 => ⟨S1x256x256, .f32⟩
  | 92 => ⟨S2x256x256, .f32⟩
  | 93 => ⟨S1x2x256x256, .f32⟩
  | _ => ⟨S1x1x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1x256x256, .f32⟩

abbrev bufTy : (tb : Table) → Fin (tcTables nBuf tb) → BufTy
  | .hbm, ⟨i, _⟩ => hbmTy i
  | _, _ => ⟨S1x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_cst_7 : Ref sig .tc := ⟨.hbm, 10, rfl⟩
abbrev main_cst_8 : Ref sig .tc := ⟨.hbm, 11, rfl⟩
abbrev main_cst_9 : Ref sig .tc := ⟨.hbm, 12, rfl⟩
abbrev main_cst_10 : Ref sig .tc := ⟨.hbm, 13, rfl⟩
abbrev main_cst_11 : Ref sig .tc := ⟨.hbm, 14, rfl⟩
abbrev main_cst_12 : Ref sig .tc := ⟨.hbm, 15, rfl⟩
abbrev main_cst_13 : Ref sig .tc := ⟨.hbm, 16, rfl⟩
abbrev main_cst_14 : Ref sig .tc := ⟨.hbm, 17, rfl⟩
abbrev main_cst_15 : Ref sig .tc := ⟨.hbm, 18, rfl⟩
abbrev main_cst_16 : Ref sig .tc := ⟨.hbm, 19, rfl⟩
abbrev main_cst_17 : Ref sig .tc := ⟨.hbm, 20, rfl⟩
abbrev main_cst_18 : Ref sig .tc := ⟨.hbm, 21, rfl⟩
abbrev main_cst_19 : Ref sig .tc := ⟨.hbm, 22, rfl⟩
abbrev main_cst_20 : Ref sig .tc := ⟨.hbm, 23, rfl⟩
abbrev main_cst_21 : Ref sig .tc := ⟨.hbm, 24, rfl⟩
abbrev main_cst_22 : Ref sig .tc := ⟨.hbm, 25, rfl⟩
abbrev main_cst_23 : Ref sig .tc := ⟨.hbm, 26, rfl⟩
abbrev main_cst_24 : Ref sig .tc := ⟨.hbm, 27, rfl⟩
abbrev main_cst_25 : Ref sig .tc := ⟨.hbm, 28, rfl⟩
abbrev main_cst_26 : Ref sig .tc := ⟨.hbm, 29, rfl⟩
abbrev main_cst_27 : Ref sig .tc := ⟨.hbm, 30, rfl⟩
abbrev main_cst_28 : Ref sig .tc := ⟨.hbm, 31, rfl⟩
abbrev main_cst_29 : Ref sig .tc := ⟨.hbm, 32, rfl⟩
abbrev main_cst_30 : Ref sig .tc := ⟨.hbm, 33, rfl⟩
abbrev main_cst_31 : Ref sig .tc := ⟨.hbm, 34, rfl⟩
abbrev main_cst_32 : Ref sig .tc := ⟨.hbm, 35, rfl⟩
abbrev main_cst_33 : Ref sig .tc := ⟨.hbm, 36, rfl⟩
abbrev main_cst_34 : Ref sig .tc := ⟨.hbm, 37, rfl⟩
abbrev main_cst_35 : Ref sig .tc := ⟨.hbm, 38, rfl⟩
abbrev main_cst_36 : Ref sig .tc := ⟨.hbm, 39, rfl⟩
abbrev main_cst_37 : Ref sig .tc := ⟨.hbm, 40, rfl⟩
abbrev main_cst_38 : Ref sig .tc := ⟨.hbm, 41, rfl⟩
abbrev main_cst_39 : Ref sig .tc := ⟨.hbm, 42, rfl⟩
abbrev main_cst_40 : Ref sig .tc := ⟨.hbm, 43, rfl⟩
abbrev main_cst_41 : Ref sig .tc := ⟨.hbm, 44, rfl⟩
abbrev main_cst_42 : Ref sig .tc := ⟨.hbm, 45, rfl⟩
abbrev main_cst_43 : Ref sig .tc := ⟨.hbm, 46, rfl⟩
abbrev main_cst_44 : Ref sig .tc := ⟨.hbm, 47, rfl⟩
abbrev main_cst_45 : Ref sig .tc := ⟨.hbm, 48, rfl⟩
abbrev main_cst_46 : Ref sig .tc := ⟨.hbm, 49, rfl⟩
abbrev main_cst_47 : Ref sig .tc := ⟨.hbm, 50, rfl⟩
abbrev main_cst_48 : Ref sig .tc := ⟨.hbm, 51, rfl⟩
abbrev main_cst_49 : Ref sig .tc := ⟨.hbm, 52, rfl⟩
abbrev main_cst_50 : Ref sig .tc := ⟨.hbm, 53, rfl⟩
abbrev main_cst_51 : Ref sig .tc := ⟨.hbm, 54, rfl⟩
abbrev main_cst_52 : Ref sig .tc := ⟨.hbm, 55, rfl⟩
abbrev main_cst_53 : Ref sig .tc := ⟨.hbm, 56, rfl⟩
abbrev main_cst_54 : Ref sig .tc := ⟨.hbm, 57, rfl⟩
abbrev main_cst_55 : Ref sig .tc := ⟨.hbm, 58, rfl⟩
abbrev main_cst_56 : Ref sig .tc := ⟨.hbm, 59, rfl⟩
abbrev main_cst_57 : Ref sig .tc := ⟨.hbm, 60, rfl⟩
abbrev main_cst_58 : Ref sig .tc := ⟨.hbm, 61, rfl⟩
abbrev main_cst_59 : Ref sig .tc := ⟨.hbm, 62, rfl⟩
abbrev main_cst_60 : Ref sig .tc := ⟨.hbm, 63, rfl⟩
abbrev main_cst_61 : Ref sig .tc := ⟨.hbm, 64, rfl⟩
abbrev main_cst_62 : Ref sig .tc := ⟨.hbm, 65, rfl⟩
abbrev main_cst_63 : Ref sig .tc := ⟨.hbm, 66, rfl⟩
abbrev main_cst_64 : Ref sig .tc := ⟨.hbm, 67, rfl⟩
abbrev main_cst_65 : Ref sig .tc := ⟨.hbm, 68, rfl⟩
abbrev main_cst_66 : Ref sig .tc := ⟨.hbm, 69, rfl⟩
abbrev main_cst_67 : Ref sig .tc := ⟨.hbm, 70, rfl⟩
abbrev main_cst_68 : Ref sig .tc := ⟨.hbm, 71, rfl⟩
abbrev main_cst_69 : Ref sig .tc := ⟨.hbm, 72, rfl⟩
abbrev main_cst_70 : Ref sig .tc := ⟨.hbm, 73, rfl⟩
abbrev main_cst_71 : Ref sig .tc := ⟨.hbm, 74, rfl⟩
abbrev main_cst_72 : Ref sig .tc := ⟨.hbm, 75, rfl⟩
abbrev main_cst_73 : Ref sig .tc := ⟨.hbm, 76, rfl⟩
abbrev main_cst_74 : Ref sig .tc := ⟨.hbm, 77, rfl⟩
abbrev main_cst_75 : Ref sig .tc := ⟨.hbm, 78, rfl⟩
abbrev main_cst_76 : Ref sig .tc := ⟨.hbm, 79, rfl⟩
abbrev main_cst_77 : Ref sig .tc := ⟨.hbm, 80, rfl⟩
abbrev main_cst_78 : Ref sig .tc := ⟨.hbm, 81, rfl⟩
abbrev main_cst_79 : Ref sig .tc := ⟨.hbm, 82, rfl⟩
abbrev main_cst_80 : Ref sig .tc := ⟨.hbm, 83, rfl⟩
abbrev main_cst_81 : Ref sig .tc := ⟨.hbm, 84, rfl⟩
abbrev main_cst_82 : Ref sig .tc := ⟨.hbm, 85, rfl⟩
abbrev main_cst_83 : Ref sig .tc := ⟨.hbm, 86, rfl⟩
abbrev main_cst_84 : Ref sig .tc := ⟨.hbm, 87, rfl⟩
abbrev main_cst_85 : Ref sig .tc := ⟨.hbm, 88, rfl⟩
abbrev main_cst_86 : Ref sig .tc := ⟨.hbm, 89, rfl⟩
abbrev main_cst_87 : Ref sig .tc := ⟨.hbm, 90, rfl⟩
abbrev main_cst_88 : Ref sig .tc := ⟨.hbm, 91, rfl⟩
abbrev main_cst_89 : Ref sig .tc := ⟨.hbm, 92, rfl⟩
abbrev main_cst_90 : Ref sig .tc := ⟨.hbm, 93, rfl⟩
abbrev main_cst_91 : Ref sig .tc := ⟨.hbm, 94, rfl⟩
abbrev main_cst_92 : Ref sig .tc := ⟨.hbm, 95, rfl⟩
abbrev main_cst_93 : Ref sig .tc := ⟨.hbm, 96, rfl⟩
abbrev main_cst_94 : Ref sig .tc := ⟨.hbm, 97, rfl⟩
abbrev main_cst_95 : Ref sig .tc := ⟨.hbm, 98, rfl⟩
abbrev main_cst_96 : Ref sig .tc := ⟨.hbm, 99, rfl⟩
abbrev main_v0 : Ref sig .tc := ⟨.hbm, 100, rfl⟩
abbrev main_v1 : Ref sig .tc := ⟨.hbm, 101, rfl⟩
abbrev main_v2 : Ref sig .tc := ⟨.hbm, 102, rfl⟩
abbrev main_v3 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_cst_97 : Ref sig .tc := ⟨.hbm, 109, rfl⟩
abbrev main_v9 : Ref sig .tc := ⟨.hbm, 110, rfl⟩
abbrev main_v10 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_cst_98 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_cst_99 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_cst_100 : Ref sig .tc := ⟨.hbm, 126, rfl⟩
abbrev main_v23 : Ref sig .tc := ⟨.hbm, 127, rfl⟩
abbrev main_v24 : Ref sig .tc := ⟨.hbm, 128, rfl⟩
abbrev main_cst_101 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_cst_102 : Ref sig .tc := ⟨.hbm, 133, rfl⟩
abbrev main_cst_103 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_cst_104 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_cst_105 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_cst_106 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_cst_107 : Ref sig .tc := ⟨.hbm, 167, rfl⟩
abbrev main_v52 : Ref sig .tc := ⟨.hbm, 168, rfl⟩
abbrev main_v53 : Ref sig .tc := ⟨.hbm, 169, rfl⟩
abbrev main_cst_108 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_cst_109 : Ref sig .tc := ⟨.hbm, 174, rfl⟩
abbrev main_cst_110 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_v57 : Ref sig .tc := ⟨.hbm, 181, rfl⟩
abbrev main_cst_111 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_cst_112 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_v114 : Ref sig .tc := ⟨.hbm, 240, rfl⟩
abbrev main_v115 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_cst_113 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_cst_114 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_c : Ref sig .tc := ⟨.hbm, 349, rfl⟩
abbrev main_call4_v0 : Ref sig .tc := ⟨.hbm, 350, rfl⟩
abbrev main_call4_v1 : Ref sig .tc := ⟨.hbm, 351, rfl⟩
abbrev main_call4_v2 : Ref sig .tc := ⟨.hbm, 352, rfl⟩
abbrev main_v221 : Ref sig .tc := ⟨.hbm, 353, rfl⟩
abbrev main_c_115 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_cst_116 : Ref sig .tc := ⟨.hbm, 361, rfl⟩
abbrev main_call5_v0 : Ref sig .tc := ⟨.hbm, 362, rfl⟩
abbrev main_call5_v1 : Ref sig .tc := ⟨.hbm, 363, rfl⟩
abbrev main_call5_v2 : Ref sig .tc := ⟨.hbm, 364, rfl⟩
abbrev main_v228 : Ref sig .tc := ⟨.hbm, 365, rfl⟩
abbrev main_cst_117 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_cst_118 : Ref sig .tc := ⟨.hbm, 376, rfl⟩
abbrev main_call6_v0 : Ref sig .tc := ⟨.hbm, 377, rfl⟩
abbrev main_call6_v1 : Ref sig .tc := ⟨.hbm, 378, rfl⟩
abbrev main_call6_v2 : Ref sig .tc := ⟨.hbm, 379, rfl⟩
abbrev main_v238 : Ref sig .tc := ⟨.hbm, 380, rfl⟩
abbrev main_cst_119 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_cst_120 : Ref sig .tc := ⟨.hbm, 391, rfl⟩
abbrev main_call7_v0 : Ref sig .tc := ⟨.hbm, 392, rfl⟩
abbrev main_call7_v1 : Ref sig .tc := ⟨.hbm, 393, rfl⟩
abbrev main_call7_v2 : Ref sig .tc := ⟨.hbm, 394, rfl⟩
abbrev main_v248 : Ref sig .tc := ⟨.hbm, 395, rfl⟩
abbrev main_cst_121 : Ref sig .tc := ⟨.hbm, 396, rfl⟩
abbrev main_v249 : Ref sig .tc := ⟨.hbm, 397, rfl⟩
abbrev main_cst_122 : Ref sig .tc := ⟨.hbm, 398, rfl⟩
abbrev main_v250 : Ref sig .tc := ⟨.hbm, 399, rfl⟩
abbrev main_v251 : Ref sig .tc := ⟨.hbm, 400, rfl⟩
abbrev main_cst_123 : Ref sig .tc := ⟨.hbm, 401, rfl⟩
abbrev main_v252 : Ref sig .tc := ⟨.hbm, 402, rfl⟩
abbrev main_v253 : Ref sig .tc := ⟨.hbm, 403, rfl⟩
abbrev main_cst_124 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_cst_125 : Ref sig .tc := ⟨.hbm, 416, rfl⟩
abbrev main_v265 : Ref sig .tc := ⟨.hbm, 417, rfl⟩
abbrev main_v266 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_cst_126 : Ref sig .tc := ⟨.hbm, 422, rfl⟩
abbrev main_v270 : Ref sig .tc := ⟨.hbm, 423, rfl⟩
abbrev main_v271 : Ref sig .tc := ⟨.hbm, 424, rfl⟩
abbrev main_cst_127 : Ref sig .tc := ⟨.hbm, 425, rfl⟩
abbrev main_v272 : Ref sig .tc := ⟨.hbm, 426, rfl⟩
abbrev main_v273 : Ref sig .tc := ⟨.hbm, 427, rfl⟩
abbrev main_v274 : Ref sig .tc := ⟨.hbm, 428, rfl⟩
abbrev main_v275 : Ref sig .tc := ⟨.hbm, 429, rfl⟩
abbrev main_v276 : Ref sig .tc := ⟨.hbm, 430, rfl⟩
abbrev main_v277 : Ref sig .tc := ⟨.hbm, 431, rfl⟩
abbrev main_v278 : Ref sig .tc := ⟨.hbm, 432, rfl⟩
abbrev main_v279 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_cst_128 : Ref sig .tc := ⟨.hbm, 449, rfl⟩
abbrev main_v295 : Ref sig .tc := ⟨.hbm, 450, rfl⟩
abbrev main_v296 : Ref sig .tc := ⟨.hbm, 451, rfl⟩
abbrev main_v297 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_v307 : Ref sig .tc := ⟨.hbm, 462, rfl⟩
abbrev main_v308 : Ref sig .tc := ⟨.hbm, 463, rfl⟩
abbrev main_v309 : Ref sig .tc := ⟨.hbm, 464, rfl⟩
abbrev main_v310 : Ref sig .tc := ⟨.hbm, 465, rfl⟩
abbrev main_v311 : Ref sig .tc := ⟨.hbm, 466, rfl⟩
abbrev main_v312 : Ref sig .tc := ⟨.hbm, 467, rfl⟩
abbrev main_v313 : Ref sig .tc := ⟨.hbm, 468, rfl⟩
abbrev main_v314 : Ref sig .tc := ⟨.hbm, 469, rfl⟩
abbrev main_v315 : Ref sig .tc := ⟨.hbm, 470, rfl⟩
abbrev main_v316 : Ref sig .tc := ⟨.hbm, 471, rfl⟩
abbrev main_v317 : Ref sig .tc := ⟨.hbm, 472, rfl⟩
abbrev main_cst_129 : Ref sig .tc := ⟨.hbm, 473, rfl⟩
abbrev main_v318 : Ref sig .tc := ⟨.hbm, 474, rfl⟩
abbrev main_cst_130 : Ref sig .tc := ⟨.hbm, 475, rfl⟩
abbrev main_v319 : Ref sig .tc := ⟨.hbm, 476, rfl⟩
abbrev main_v320 : Ref sig .tc := ⟨.hbm, 477, rfl⟩
abbrev main_v321 : Ref sig .tc := ⟨.hbm, 478, rfl⟩
abbrev main_v322 : Ref sig .tc := ⟨.hbm, 479, rfl⟩
abbrev main_v323 : Ref sig .tc := ⟨.hbm, 480, rfl⟩
abbrev main_cst_131 : Ref sig .tc := ⟨.hbm, 481, rfl⟩
abbrev main_v324 : Ref sig .tc := ⟨.hbm, 482, rfl⟩
abbrev main_v325 : Ref sig .tc := ⟨.hbm, 483, rfl⟩
abbrev main_v326 : Ref sig .tc := ⟨.hbm, 484, rfl⟩
abbrev main_v327 : Ref sig .tc := ⟨.hbm, 485, rfl⟩
abbrev main_v328 : Ref sig .tc := ⟨.hbm, 486, rfl⟩
abbrev main_cst_132 : Ref sig .tc := ⟨.hbm, 487, rfl⟩
abbrev main_v329 : Ref sig .tc := ⟨.hbm, 488, rfl⟩
abbrev main_v330 : Ref sig .tc := ⟨.hbm, 489, rfl⟩
abbrev main_v331 : Ref sig .tc := ⟨.hbm, 490, rfl⟩
abbrev main_v332 : Ref sig .tc := ⟨.hbm, 491, rfl⟩
abbrev main_v333 : Ref sig .tc := ⟨.hbm, 492, rfl⟩
abbrev main_cst_133 : Ref sig .tc := ⟨.hbm, 493, rfl⟩
abbrev main_v334 : Ref sig .tc := ⟨.hbm, 494, rfl⟩
abbrev main_v335 : Ref sig .tc := ⟨.hbm, 495, rfl⟩
abbrev main_v336 : Ref sig .tc := ⟨.hbm, 496, rfl⟩
abbrev main_v337 : Ref sig .tc := ⟨.hbm, 497, rfl⟩
abbrev main_v338 : Ref sig .tc := ⟨.hbm, 498, rfl⟩
abbrev main_v339 : Ref sig .tc := ⟨.hbm, 499, rfl⟩
abbrev main_cst_134 : Ref sig .tc := ⟨.hbm, 500, rfl⟩
abbrev main_v340 : Ref sig .tc := ⟨.hbm, 501, rfl⟩
abbrev main_v341 : Ref sig .tc := ⟨.hbm, 502, rfl⟩
abbrev main_v342 : Ref sig .tc := ⟨.hbm, 503, rfl⟩
abbrev main_v343 : Ref sig .tc := ⟨.hbm, 504, rfl⟩
abbrev main_v344 : Ref sig .tc := ⟨.hbm, 505, rfl⟩
abbrev main_cst_135 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_cst_136 : Ref sig .tc := ⟨.hbm, 511, rfl⟩
abbrev main_v349 : Ref sig .tc := ⟨.hbm, 512, rfl⟩
abbrev main_v350 : Ref sig .tc := ⟨.hbm, 513, rfl⟩
abbrev main_cst_137 : Ref sig .tc := ⟨.hbm, 514, rfl⟩
abbrev main_call8_v0 : Ref sig .tc := ⟨.hbm, 515, rfl⟩
abbrev main_call8_v1 : Ref sig .tc := ⟨.hbm, 516, rfl⟩
abbrev main_v351 : Ref sig .tc := ⟨.hbm, 517, rfl⟩
abbrev main_v352 : Ref sig .tc := ⟨.hbm, 518, rfl⟩
abbrev main_v353 : Ref sig .tc := ⟨.hbm, 519, rfl⟩
abbrev main_v354 : Ref sig .tc := ⟨.hbm, 520, rfl⟩
abbrev main_v355 : Ref sig .tc := ⟨.hbm, 521, rfl⟩
abbrev main_v356 : Ref sig .tc := ⟨.hbm, 522, rfl⟩
abbrev main_v357 : Ref sig .tc := ⟨.hbm, 523, rfl⟩
abbrev main_v358 : Ref sig .tc := ⟨.hbm, 524, rfl⟩
abbrev main_v359 : Ref sig .tc := ⟨.hbm, 525, rfl⟩
abbrev main_v360 : Ref sig .tc := ⟨.hbm, 526, rfl⟩
abbrev main_cst_138 : Ref sig .tc := ⟨.hbm, 527, rfl⟩
abbrev main_v361 : Ref sig .tc := ⟨.hbm, 528, rfl⟩
abbrev main_v362 : Ref sig .tc := ⟨.hbm, 529, rfl⟩
abbrev main_v363 : Ref sig .tc := ⟨.hbm, 530, rfl⟩
abbrev main_cst_139 : Ref sig .tc := ⟨.hbm, 531, rfl⟩
abbrev main_call9_v0 : Ref sig .tc := ⟨.hbm, 532, rfl⟩
abbrev main_call9_v1 : Ref sig .tc := ⟨.hbm, 533, rfl⟩
abbrev main_v364 : Ref sig .tc := ⟨.hbm, 534, rfl⟩
abbrev main_v365 : Ref sig .tc := ⟨.hbm, 535, rfl⟩
abbrev main_cst_140 : Ref sig .tc := ⟨.hbm, 536, rfl⟩
abbrev main_v366 : Ref sig .tc := ⟨.hbm, 537, rfl⟩
abbrev main_v367 : Ref sig .tc := ⟨.hbm, 538, rfl⟩
abbrev main_v368 : Ref sig .tc := ⟨.hbm, 539, rfl⟩
abbrev main_cst_141 : Ref sig .tc := ⟨.hbm, 540, rfl⟩
abbrev main_call10_v0 : Ref sig .tc := ⟨.hbm, 541, rfl⟩
abbrev main_call10_v1 : Ref sig .tc := ⟨.hbm, 542, rfl⟩
abbrev main_v369 : Ref sig .tc := ⟨.hbm, 543, rfl⟩
abbrev main_v370 : Ref sig .tc := ⟨.hbm, 544, rfl⟩
abbrev main_v371 : Ref sig .tc := ⟨.hbm, 545, rfl⟩
abbrev main_v372 : Ref sig .tc := ⟨.hbm, 546, rfl⟩
abbrev main_v373 : Ref sig .tc := ⟨.hbm, 547, rfl⟩
abbrev main_v374 : Ref sig .tc := ⟨.hbm, 548, rfl⟩
abbrev main_v375 : Ref sig .tc := ⟨.hbm, 549, rfl⟩
abbrev main_v376 : Ref sig .tc := ⟨.hbm, 550, rfl⟩
abbrev main_v377 : Ref sig .tc := ⟨.hbm, 551, rfl⟩
abbrev main_v378 : Ref sig .tc := ⟨.hbm, 552, rfl⟩
abbrev main_v379 : Ref sig .tc := ⟨.hbm, 553, rfl⟩
abbrev main_v380 : Ref sig .tc := ⟨.hbm, 554, rfl⟩
abbrev main_v381 : Ref sig .tc := ⟨.hbm, 555, rfl⟩
abbrev main_v382 : Ref sig .tc := ⟨.hbm, 556, rfl⟩
abbrev main_v383 : Ref sig .tc := ⟨.hbm, 557, rfl⟩
abbrev main_v384 : Ref sig .tc := ⟨.hbm, 558, rfl⟩
abbrev main_v385 : Ref sig .tc := ⟨.hbm, 559, rfl⟩
abbrev main_v386 : Ref sig .tc := ⟨.hbm, 560, rfl⟩
abbrev main_v387 : Ref sig .tc := ⟨.hbm, 561, rfl⟩
abbrev main_v388 : Ref sig .tc := ⟨.hbm, 562, rfl⟩
abbrev main_v389 : Ref sig .tc := ⟨.hbm, 563, rfl⟩
abbrev main_v390 : Ref sig .tc := ⟨.hbm, 564, rfl⟩
abbrev main_v391 : Ref sig .tc := ⟨.hbm, 565, rfl⟩
abbrev main_v392 : Ref sig .tc := ⟨.hbm, 566, rfl⟩
abbrev main_v393 : Ref sig .tc := ⟨.hbm, 567, rfl⟩
abbrev main_v394 : Ref sig .tc := ⟨.hbm, 568, rfl⟩
abbrev main_v395 : Ref sig .tc := ⟨.hbm, 569, rfl⟩
abbrev main_v396 : Ref sig .tc := ⟨.hbm, 570, rfl⟩
abbrev main_v397 : Ref sig .tc := ⟨.hbm, 571, rfl⟩
abbrev main_v398 : Ref sig .tc := ⟨.hbm, 572, rfl⟩
abbrev main_v399 : Ref sig .tc := ⟨.hbm, 573, rfl⟩
abbrev main_v400 : Ref sig .tc := ⟨.hbm, 574, rfl⟩
abbrev main_v401 : Ref sig .tc := ⟨.hbm, 575, rfl⟩
abbrev main_v402 : Ref sig .tc := ⟨.hbm, 576, rfl⟩
abbrev main_v403 : Ref sig .tc := ⟨.hbm, 577, rfl⟩
abbrev main_v404 : Ref sig .tc := ⟨.hbm, 578, rfl⟩
abbrev main_v405 : Ref sig .tc := ⟨.hbm, 579, rfl⟩
abbrev main_v406 : Ref sig .tc := ⟨.hbm, 580, rfl⟩
abbrev main_v407 : Ref sig .tc := ⟨.hbm, 581, rfl⟩
abbrev main_v408 : Ref sig .tc := ⟨.hbm, 582, rfl⟩
abbrev main_v409 : Ref sig .tc := ⟨.hbm, 583, rfl⟩
abbrev main_v410 : Ref sig .tc := ⟨.hbm, 584, rfl⟩
abbrev main_v411 : Ref sig .tc := ⟨.hbm, 585, rfl⟩
abbrev main_v412 : Ref sig .tc := ⟨.hbm, 586, rfl⟩
abbrev main_v413 : Ref sig .tc := ⟨.hbm, 587, rfl⟩
abbrev main_v414 : Ref sig .tc := ⟨.hbm, 588, rfl⟩
abbrev main_v415 : Ref sig .tc := ⟨.hbm, 589, rfl⟩
abbrev main_v416 : Ref sig .tc := ⟨.hbm, 590, rfl⟩
abbrev main_v417 : Ref sig .tc := ⟨.hbm, 591, rfl⟩
abbrev main_v418 : Ref sig .tc := ⟨.hbm, 592, rfl⟩
abbrev main_v419 : Ref sig .tc := ⟨.hbm, 593, rfl⟩
abbrev main_v420 : Ref sig .tc := ⟨.hbm, 594, rfl⟩
abbrev main_v421 : Ref sig .tc := ⟨.hbm, 595, rfl⟩
abbrev main_v422 : Ref sig .tc := ⟨.hbm, 596, rfl⟩
abbrev main_v423 : Ref sig .tc := ⟨.hbm, 597, rfl⟩
abbrev main_v424 : Ref sig .tc := ⟨.hbm, 598, rfl⟩
abbrev main_v425 : Ref sig .tc := ⟨.hbm, 599, rfl⟩
abbrev main_v426 : Ref sig .tc := ⟨.hbm, 600, rfl⟩
abbrev main_v427 : Ref sig .tc := ⟨.hbm, 601, rfl⟩
abbrev main_v428 : Ref sig .tc := ⟨.hbm, 602, rfl⟩
abbrev main_v429 : Ref sig .tc := ⟨.hbm, 603, rfl⟩
abbrev main_v430 : Ref sig .tc := ⟨.hbm, 604, rfl⟩
abbrev main_v431 : Ref sig .tc := ⟨.hbm, 605, rfl⟩

abbrev nD : Nat := 1
abbrev τ : Topo := Topo.v7x

variable {F : FTy → Type} [FloatOps F]
-- ==== Proof.Lits.lean ====
/- The kernel's two constant tables: which of their entries are one. Each table is read as a tree of its index's digits
   in base 128; the same tree with the entries as a formula has the same branches. -/
module

public import proofs.«01_k».proof.Proof.Gen.KernelIdeal
public import Idealize.ShloMosaic.Lib.Pipeline.Regions

@[expose] public section

set_option maxRecDepth 16384

namespace Cert.Flow

open Cert.KernelIdeal

/-- The value at `x` below 8, zero from there on. -/
def get8 {w : ℕ} (x : ℕ) (h : ℕ → BitVec w) : BitVec w := match x with
  | 0 => h 0
  | 1 => h 1
  | 2 => h 2
  | 3 => h 3
  | 4 => h 4
  | 5 => h 5
  | 6 => h 6
  | 7 => h 7
  | _ => 0#w

theorem get8_eq {w : ℕ} (x : ℕ) (h : ℕ → BitVec w) (hx : x < 8) : get8 x h = h x := by
  interval_cases x <;> rfl

/-- The value at `x` below 16, zero from there on. -/
def get16 {w : ℕ} (x : ℕ) (h : ℕ → BitVec w) : BitVec w := match x with
  | 0 => h 0
  | 1 => h 1
  | 2 => h 2
  | 3 => h 3
  | 4 => h 4
  | 5 => h 5
  | 6 => h 6
  | 7 => h 7
  | 8 => h 8
  | 9 => h 9
  | 10 => h 10
  | 11 => h 11
  | 12 => h 12
  | 13 => h 13
  | 14 => h 14
  | 15 => h 15
  | _ => 0#w

theorem get16_eq {w : ℕ} (x : ℕ) (h : ℕ → BitVec w) (hx : x < 16) : get16 x h = h x := by
  interval_cases x <;> rfl

/-- The value at `x` below 128, zero from there on. -/
def get128 {w : ℕ} (x : ℕ) (h : ℕ → BitVec w) : BitVec w := match x with
  | 0 => h 0
  | 1 => h 1
  | 2 => h 2
  | 3 => h 3
  | 4 => h 4
  | 5 => h 5
  | 6 => h 6
  | 7 => h 7
  | 8 => h 8
  | 9 => h 9
  | 10 => h 10
  | 11 => h 11
  | 12 => h 12
  | 13 => h 13
  | 14 => h 14
  | 15 => h 15
  | 16 => h 16
  | 17 => h 17
  | 18 => h 18
  | 19 => h 19
  | 20 => h 20
  | 21 => h 21
  | 22 => h 22
  | 23 => h 23
  | 24 => h 24
  | 25 => h 25
  | 26 => h 26
  | 27 => h 27
  | 28 => h 28
  | 29 => h 29
  | 30 => h 30
  | 31 => h 31
  | 32 => h 32
  | 33 => h 33
  | 34 => h 34
  | 35 => h 35
  | 36 => h 36
  | 37 => h 37
  | 38 => h 38
  | 39 => h 39
  | 40 => h 40
  | 41 => h 41
  | 42 => h 42
  | 43 => h 43
  | 44 => h 44
  | 45 => h 45
  | 46 => h 46
  | 47 => h 47
  | 48 => h 48
  | 49 => h 49
  | 50 => h 50
  | 51 => h 51
  | 52 => h 52
  | 53 => h 53
  | 54 => h 54
  | 55 => h 55
  | 56 => h 56
  | 57 => h 57
  | 58 => h 58
  | 59 => h 59
  | 60 => h 60
  | 61 => h 61
  | 62 => h 62
  | 63 => h 63
  | 64 => h 64
  | 65 => h 65
  | 66 => h 66
  | 67 => h 67
  | 68 => h 68
  | 69 => h 69
  | 70 => h 70
  | 71 => h 71
  | 72 => h 72
  | 73 => h 73
  | 74 => h 74
  | 75 => h 75
  | 76 => h 76
  | 77 => h 77
  | 78 => h 78
  | 79 => h 79
  | 80 => h 80
  | 81 => h 81
  | 82 => h 82
  | 83 => h 83
  | 84 => h 84
  | 85 => h 85
  | 86 => h 86
  | 87 => h 87
  | 88 => h 88
  | 89 => h 89
  | 90 => h 90
  | 91 => h 91
  | 92 => h 92
  | 93 => h 93
  | 94 => h 94
  | 95 => h 95
  | 96 => h 96
  | 97 => h 97
  | 98 => h 98
  | 99 => h 99
  | 100 => h 100
  | 101 => h 101
  | 102 => h 102
  | 103 => h 103
  | 104 => h 104
  | 105 => h 105
  | 106 => h 106
  | 107 => h 107
  | 108 => h 108
  | 109 => h 109
  | 110 => h 110
  | 111 => h 111
  | 112 => h 112
  | 113 => h 113
  | 114 => h 114
  | 115 => h 115
  | 116 => h 116
  | 117 => h 117
  | 118 => h 118
  | 119 => h 119
  | 120 => h 120
  | 121 => h 121
  | 122 => h 122
  | 123 => h 123
  | 124 => h 124
  | 125 => h 125
  | 126 => h 126
  | 127 => h 127
  | _ => 0#w

theorem get128_eq {w : ℕ} (x : ℕ) (h : ℕ → BitVec w) (hx : x < 128) : get128 x h = h x := by
  interval_cases x <;> rfl

/-- The word of one where the first table's row `n / 256` is among the five from its column `n % 256` on, of zero elsewhere. -/
def five (n : ℕ) : BitVec 16 := bif Nat.ble (n % 256) (n / 256) && Nat.ble (n / 256) (n % 256 + 4) then 0x3F80#16 else 0x0000#16

/-- The word of one where the second table's row `n / 512` is among the five from column `n % 512` on in the left half,
    among the middle three of those in the right half, of zero elsewhere. -/
def fives (n : ℕ) : BitVec 32 :=
  bif Nat.ble (n % 512 % 256 + n % 512 / 256) (n / 512) && Nat.ble (n / 512 + n % 512 / 256) (n % 512 % 256 + 4) then 0x3F800000#32 else 0x00000000#32

/-- A row of 128 entries `f`, from the `a`-th on. -/
def leaf {w : ℕ} (f : ℕ → BitVec w) (i a : ℕ) : BitVec w := get128 (i % 128) fun c => f (128 * a + c)

theorem leaf_eq {w : ℕ} (f : ℕ → BitVec w) (i : ℕ) : leaf f i (i / 128) = f i := by
  rw [leaf, get128_eq _ _ (Nat.mod_lt _ (by decide)), Nat.div_add_mod]

/-- 128 rows. -/
def block {w : ℕ} (f : ℕ → BitVec w) (i a : ℕ) : BitVec w := get128 (i / 128 % 128) fun b => leaf f i (128 * a + b)

theorem block_eq {w : ℕ} (f : ℕ → BitVec w) (i : ℕ) : block f i (i / 16384) = f i := by
  rw [block, get128_eq _ _ (Nat.mod_lt _ (by decide)), show 128 * (i / 16384) + i / 128 % 128 = i / 128 by omega, leaf_eq]

theorem lit0_tree (i : ℕ) : lit0t i = match i / 16384 with
    | 0 => block five i 0 | 1 => block five i 1 | 2 => block five i 2 | 3 => block five i 3
    | 4 => get8 (i / 128 % 128) fun b => leaf five i (512 + b) | _ => 0#16 := by chain_rfl

theorem lit1_tree (i : ℕ) : lit1t i = match i / 16384 with
    | 0 => block fives i 0 | 1 => block fives i 1 | 2 => block fives i 2 | 3 => block fives i 3
    | 4 => block fives i 4 | 5 => block fives i 5 | 6 => block fives i 6 | 7 => block fives i 7
    | 8 => get16 (i / 128 % 128) fun b => leaf fives i (1024 + b) | _ => 0#32 := by chain_rfl

/-- The whole first table. -/
theorem lit0_eq (n : Fin 66560) : lit0 n = five n.val := by
  obtain ⟨i, hi⟩ := n
  refine (lit0_tree i).trans ?_
  have h := block_eq five i
  have hq : i / 16384 < 5 := by omega
  generalize hr : i / 16384 = r at *
  interval_cases r
  iterate 4 exact h
  have e := leaf_eq five i
  refine (get8_eq _ _ (by omega)).trans ?_
  rwa [show 512 + i / 128 % 128 = i / 128 by omega]

/-- The whole second table. -/
theorem lit1_eq (n : Fin 133120) : lit1 n = fives n.val := by
  obtain ⟨i, hi⟩ := n
  refine (lit1_tree i).trans ?_
  have h := block_eq fives i
  have hq : i / 16384 < 9 := by omega
  generalize hr : i / 16384 = r at *
  interval_cases r
  iterate 8 exact h
  have e := leaf_eq fives i
  refine (get16_eq _ _ (by omega)).trans ?_
  rwa [show 1024 + i / 128 % 128 = i / 128 by omega]

end Cert.Flow

end
-- ==== Proof.Body.lean ====
/- The kernel's body as mathematics: what one grid point computes from its two bands of padded rows and the two
   constant band matrices, written as one loop over the 49 displacements. -/
module

public import proofs.«01_k».proof.Proof.Gen.KernelIdeal
public import proofs.«01_k».proof.Proof.Gen.KernelIdeal.Launch

@[expose] public section

set_option maxRecDepth 16384

noncomputable section

namespace Cert.Flow

open Cert.KernelIdeal Cert.KernelIdeal.Gen Idealize.ShloMosaic

variable {F : FTy → Type} [FloatOps F] [Named F]

/-- A block of shape `s` filled with the float of word `b`. -/
abbrev fill (s : Shape) (b : BitVec 32) : FVec F s .f32 := broadcast s (Scalar.ofBits .f32 b)

/-- The binomial smoothing of one band: down the columns, then along the rows. -/
def smooth (x : FVec F S80x272 .f32) : FVec F S78x270 .f32 :=
  let v : FVec F S78x272 .f32 :=
    mulf (addf (addf (extractStridedSlice S78x272 ![0, 0] x)
      (mulf (fill S78x272 0x40000000#32) (extractStridedSlice S78x272 ![1, 0] x)))
      (extractStridedSlice S78x272 ![2, 0] x)) (fill S78x272 0x3E800000#32)
  mulf (addf (addf (extractStridedSlice S78x270 ![0, 0] v)
    (mulf (fill S78x270 0x40000000#32) (extractStridedSlice S78x270 ![0, 1] v)))
    (extractStridedSlice S78x270 ![0, 2] v)) (fill S78x270 0x3E800000#32)

/-- The quantised band. -/
def quant (x : FVec F S80x272 .f32) : FVec F S78x270 .f32 :=
  minimumf (fill S78x270 0x437F0000#32) (maximumf (fill S78x270 0x00000000#32)
    (roundeven (mulf (smooth x) (fill S78x270 0x437F0000#32))))

/-- A frame of zeros, one wide, around the quantised band. -/
def embed (q : FVec F S78x270 .f32) : FVec F S80x272 .f32 :=
  concatenate S80x272 1 [⟨S80x1, fill S80x1 0x00000000#32⟩,
    ⟨S80x270, concatenate S80x270 0 [⟨S1x270, fill S1x270 0x00000000#32⟩, ⟨S78x270, q⟩,
      ⟨S1x270, fill S1x270 0x00000000#32⟩] concatenates_S1x270_S78x270_S1x270_S80x270_d0⟩,
    ⟨S80x1, fill S80x1 0x00000000#32⟩] concatenates_S80x1_S80x270_S80x1_S80x272_d1

/-- The first image row of grid point `i`'s strip. -/
def row0 (i : grid0.Coords) : BitVec 32 := Scalar.muli (BitVec.ofNat 32 (i 0).val) 64#32

/-- Which elements of the band lie inside the image. -/
def inside (i : grid0.Coords) : IVec S80x272 1 :=
  let r : IVec S80x272 32 := addi (iota .tc S80x272 32 [0] iota_S80x272_d0_w32) (broadcast S80x272 (Scalar.subi (row0 i) 8#32))
  let c : IVec S80x272 32 := subi (iota .tc S80x272 32 [1] iota_S80x272_d1_w32) (broadcast S80x272 8#32)
  andi (andi (andi (cmpi .sge r (broadcast S80x272 0#32)) (cmpi .slt r (broadcast S80x272 256#32)))
    (cmpi .sge c (broadcast S80x272 0#32))) (cmpi .slt c (broadcast S80x272 256#32))

/-- The quantised band, zero outside the image. -/
def plane (i : grid0.Coords) (x : FVec F S80x272 .f32) : FVec F S80x272 .f32 :=
  select (inside i) (embed (quant (shapeCast S80x272 x shapeCasts_S80x272_S80x272))) (fill S80x272 0x00000000#32)

/-- Image rows of the 70-row working block. -/
def rowsQ (i : grid0.Coords) : IVec S70x272 32 :=
  addi (iota .tc S70x272 32 [0] iota_S70x272_d0_w32) (broadcast S70x272 (Scalar.subi (row0 i) 3#32))

/-- Image columns of the 70-row working block. -/
def colsQ : IVec S70x272 32 := subi (iota .tc S70x272 32 [1] iota_S70x272_d1_w32) (broadcast S70x272 8#32)

/-- Which elements of the working block lie inside the image. -/
def insideQ (i : grid0.Coords) : IVec S70x272 1 :=
  andi (andi (andi (cmpi .sge (rowsQ i) (broadcast S70x272 0#32)) (cmpi .slt (rowsQ i) (broadcast S70x272 256#32)))
    (cmpi .sge colsQ (broadcast S70x272 0#32))) (cmpi .slt colsQ (broadcast S70x272 256#32))

/-- The vertical difference of the working block's rows, replicating at the image's edges. -/
def gradY (i : grid0.Coords) (f : FVec F S80x272 .f32) : FVec F S70x260 .f32 :=
  extractStridedSlice S70x260 ![0, 6] (select (insideQ i)
    (subf (select (cmpi .eq (rowsQ i) (broadcast S70x272 255#32)) (extractStridedSlice S70x272 ![5, 0] f) (extractStridedSlice S70x272 ![6, 0] f))
      (select (cmpi .eq (rowsQ i) (broadcast S70x272 0#32)) (extractStridedSlice S70x272 ![5, 0] f) (extractStridedSlice S70x272 ![4, 0] f)))
    (fill S70x272 0x00000000#32))

/-- The working block one column to the left, its last column kept. -/
def fromRight (x : FVec F S70x272 .f32) : FVec F S70x272 .f32 :=
  concatenate S70x272 1 [⟨S70x271, extractStridedSlice S70x271 ![0, 1] x⟩, ⟨S70x1, extractStridedSlice S70x1 ![0, 271] x⟩] concatenates_S70x271_S70x1_S70x272_d1

/-- The working block one column to the right, its first column kept. -/
def fromLeft (x : FVec F S70x272 .f32) : FVec F S70x272 .f32 :=
  concatenate S70x272 1 [⟨S70x1, extractStridedSlice S70x1 ![0, 0] x⟩, ⟨S70x271, extractStridedSlice S70x271 ![0, 0] x⟩] concatenates_S70x1_S70x271_S70x272_d1

/-- The horizontal difference of the working block's columns, replicating at the image's edges. -/
def gradX (i : grid0.Coords) (f : FVec F S80x272 .f32) : FVec F S70x260 .f32 :=
  extractStridedSlice S70x260 ![0, 6] (select (insideQ i)
    (subf (select (cmpi .eq colsQ (broadcast S70x272 255#32)) (extractStridedSlice S70x272 ![5, 0] f) (fromRight (extractStridedSlice S70x272 ![5, 0] f)))
      (select (cmpi .eq colsQ (broadcast S70x272 0#32)) (extractStridedSlice S70x272 ![5, 0] f) (fromLeft (extractStridedSlice S70x272 ![5, 0] f))))
    (fill S70x272 0x00000000#32))

/-- Five consecutive rows added up. -/
def rows5 (m : FVec F S70x256 .f32) : FVec F S66x256 .f32 :=
  addf (addf (addf (addf (extractStridedSlice S66x256 ![0, 0] m) (extractStridedSlice S66x256 ![1, 0] m))
    (extractStridedSlice S66x256 ![2, 0] m)) (extractStridedSlice S66x256 ![3, 0] m)) (extractStridedSlice S66x256 ![4, 0] m)

/-- The three middle rows of five added up. -/
def rows3 (m : FVec F S70x256 .f32) : FVec F S66x256 .f32 :=
  addf (addf (extractStridedSlice S66x256 ![1, 0] m) (extractStridedSlice S66x256 ![2, 0] m)) (extractStridedSlice S66x256 ![3, 0] m)

/-- The whole part of `p / 256`. -/
def high (p : FVec F S70x260 .f32) : FVec F S70x260 .f32 := floor (mulf p (fill S70x260 0x3B800000#32))

/-- The column sums of both band matrices, from the high and low parts of `p`. -/
def bands (w : FVec F S260x512 .f32) (p : FVec F S70x260 .f32) : FVec F S70x512 .f32 :=
  addf (mulf (matmul dot_S70x260_S260x512_S70x512_1_0_0_1_n_n none (high p) w (constant S70x512 .f32 0x00000000#32)) (fill S70x512 0x43800000#32))
    (matmul dot_S70x260_S260x512_S70x512_1_0_0_1_n_n none (subf p (mulf (high p) (fill S70x260 0x43800000#32))) w (constant S70x512 .f32 0x00000000#32))

/-- The sum over the border of the five-by-five patch. -/
def border (w : FVec F S260x512 .f32) (p : FVec F S70x260 .f32) : FVec F S66x256 .f32 :=
  subf (rows5 (extractStridedSlice S70x256 ![0, 0] (bands w p))) (rows3 (extractStridedSlice S70x256 ![0, 256] (bands w p)))

/-- A block of the 70 by 260 working size fits in the band at every displacement. -/
theorem slices_at (a b : Fin 7) : S80x272.Slices ![2 + a.val, 3 + b.val] S70x260 :=
  ⟨rfl, fun k => by
    match k with
    | ⟨0, _⟩ => show 2 + a.val + 70 ≤ 80; omega
    | ⟨1, _⟩ => show 3 + b.val + 260 ≤ 272; omega⟩

/-- The band's working block at displacement `(a - 3, b - 3)`. -/
def blockAt {φ : FTy} (x : FVec F S80x272 φ) (d : Fin 7 × Fin 7) : FVec F S70x260 φ :=
  extractStridedSlice S70x260 ![2 + d.1.val, 3 + d.2.val] x (slices_at d.1 d.2)

/-- The sum of absolute differences at displacement `d`. -/
def costAt (u : FVec F S260x256 .bf16) (f : FVec F S80x272 .f32) (g : FVec F S80x272 .f32) (d : Fin 7 × Fin 7) : FVec F S66x256 .f32 :=
  rows5 (matmul dot_S70x260_S260x256_S70x256_1_0_0_1_n_n none
    (absf (subf (blockAt (truncf .bf16 g bitsLt_bf16_f32) d) (truncf .bf16 (extractStridedSlice S70x260 ![5, 6] f) bitsLt_bf16_f32)))
    u (constant S70x256 .f32 0x00000000#32))

/-- The border sum of the displaced block times a gradient. -/
def crossAt (w : FVec F S260x512 .f32) (g : FVec F S80x272 .f32) (e : FVec F S70x260 .f32) (d : Fin 7 × Fin 7) : FVec F S66x256 .f32 :=
  border w (mulf (blockAt g d) e)

/-- The code of a displacement: seven times its row plus its column. -/
def code (d : Fin 7 × Fin 7) : BitVec 32 := BitVec.ofNat 32 (7 * d.1.val + d.2.val)

/-- What the search carries: the least cost, its displacement's code and the two cross sums there. -/
structure Best (F : FTy → Type) where
  cost : FVec F S66x256 .f32
  idx : IVec S66x256 32
  px : FVec F S66x256 .f32
  py : FVec F S66x256 .f32

/-- The search's first displacement. -/
def first (u : FVec F S260x256 .bf16) (w : FVec F S260x512 .f32) (f g : FVec F S80x272 .f32) (dx dy : FVec F S70x260 .f32) (d : Fin 7 × Fin 7) : Best F where
  cost := costAt u f g d
  idx := broadcast S66x256 (code d)
  px := crossAt w g dx d
  py := crossAt w g dy d

/-- One more displacement: it replaces the best so far where its cost is smaller. -/
def step (u : FVec F S260x256 .bf16) (w : FVec F S260x512 .f32) (f g : FVec F S80x272 .f32) (dx dy : FVec F S70x260 .f32) (s : Best F) (d : Fin 7 × Fin 7) : Best F where
  cost := select (cmpf .olt (costAt u f g d) s.cost) (costAt u f g d) s.cost
  idx := select (cmpf .olt (costAt u f g d) s.cost) (broadcast S66x256 (code d)) s.idx
  px := select (cmpf .olt (costAt u f g d) s.cost) (crossAt w g dx d) s.px
  py := select (cmpf .olt (costAt u f g d) s.cost) (crossAt w g dy d) s.py

/-- The displacements after the first, spiralling outwards; a pair `(a, b)` is the displacement `(a - 3, b - 3)`. -/
def spiral : List (Fin 7 × Fin 7) := [
  (3, 4), (4, 4), (4, 3), (4, 2), (3, 2), (2, 2), (2, 3), (2, 4), (2, 5), (3, 5), (4, 5), (5, 5), (5, 4), (5,
  3), (5, 2), (5, 1), (4, 1), (3, 1), (2, 1), (1, 1), (1, 2), (1, 3), (1, 4), (1, 5), (1, 6), (2, 6), (3, 6),
  (4, 6), (5, 6), (6, 6), (6, 5), (6, 4), (6, 3), (6, 2), (6, 1), (6, 0), (5, 0), (4, 0), (3, 0), (2, 0), (1,
  0), (0, 0), (0, 1), (0, 2), (0, 3), (0, 4), (0, 5), (0, 6)]

/-- The whole search. -/
def search (u : FVec F S260x256 .bf16) (w : FVec F S260x512 .f32) (f g : FVec F S80x272 .f32) (dx dy : FVec F S70x260 .f32) : Best F :=
  spiral.foldl (step u w f g dx dy) (first u w f g dx dy (3, 3))

/-- The determinant's threshold test. -/
def bad (det : FVec F S66x256 .f32) : IVec S66x256 1 := cmpf .ole det (fill S66x256 0x33D6BF95#32)

/-- The determinant, one where it is too small. -/
def safe (det : FVec F S66x256 .f32) : FVec F S66x256 .f32 := select (bad det) (fill S66x256 0x3F800000#32) det

/-- A sub-pixel component, zero where the determinant is too small or the component reaches one. -/
def clear (det u : FVec F S66x256 .f32) : FVec F S66x256 .f32 :=
  select (ori (bad det) (cmpf .oge (absf u) (fill S66x256 0x3F800000#32))) (fill S66x256 0x00000000#32) u

/-- The gradients' scale, named. -/
def gsc : FVec F S66x256 .f32 := broadcast S66x256 (Named.named κ "gradient_scale" 0x36810182#32)

/-- The cross sums' scale, named. -/
def psc : FVec F S66x256 .f32 := broadcast S66x256 (Named.named κ "product_scale" 0x37010182#32)

/-- The row part of a displacement's code. -/
def codeRow (b : IVec S66x256 32) : IVec S66x256 32 := shrui (muli b (broadcast S66x256 9363#32)) (broadcast S66x256 16#32)

/-- The flow's two components before the median: rows, then columns. -/
def flow (w : FVec F S260x512 .f32) (f : FVec F S80x272 .f32) (dx dy : FVec F S70x260 .f32) (s : Best F) : FVec F S66x256 .f32 × FVec F S66x256 .f32 :=
  let f2 : FVec F S70x260 .f32 := extractStridedSlice S70x260 ![5, 6] f
  let a : FVec F S66x256 .f32 := mulf (border w (mulf dx dx)) gsc
  let b : FVec F S66x256 .f32 := mulf (border w (mulf dx dy)) gsc
  let d : FVec F S66x256 .f32 := mulf (border w (mulf dy dy)) gsc
  let p : FVec F S66x256 .f32 := mulf (subf s.px (border w (mulf f2 dx))) psc
  let q : FVec F S66x256 .f32 := mulf (subf s.py (border w (mulf f2 dy))) psc
  let det : FVec F S66x256 .f32 := subf (mulf a d) (mulf b b)
  let u : FVec F S66x256 .f32 := divf (subf (mulf d p) (mulf b q)) (safe det)
  let v : FVec F S66x256 .f32 := divf (subf (mulf a q) (mulf b p)) (safe det)
  let jy : IVec S66x256 32 := codeRow s.idx
  let jx : IVec S66x256 32 := subi s.idx (muli jy (broadcast S66x256 7#32))
  (addf (sitofp .f32 (subi (broadcast S66x256 3#32) jy)) (clear det v),
   addf (sitofp .f32 (subi (broadcast S66x256 3#32) jx)) (clear det u))

/-- Image rows of the strip. -/
def rowsO (i : grid0.Coords) : IVec S64x256 32 := addi (iota .tc S64x256 32 [0] iota_S64x256_d0_w32) (broadcast S64x256 (row0 i))

/-- The strip one column to the right, its first column kept. -/
def leftOf (t : FVec F S64x256 .f32) : FVec F S64x256 .f32 :=
  concatenate S64x256 1 [⟨S64x1, extractStridedSlice S64x1 ![0, 0] t⟩, ⟨S64x255, extractStridedSlice S64x255 ![0, 0] t⟩] concatenates_S64x1_S64x255_S64x256_d1

/-- The strip one column to the left, its last column kept. -/
def rightOf (t : FVec F S64x256 .f32) : FVec F S64x256 .f32 :=
  concatenate S64x256 1 [⟨S64x255, extractStridedSlice S64x255 ![0, 1] t⟩, ⟨S64x1, extractStridedSlice S64x1 ![0, 255] t⟩] concatenates_S64x255_S64x1_S64x256_d1

/-- The least of a row's three neighbours. -/
def low3 (t : FVec F S64x256 .f32) : FVec F S64x256 .f32 :=
  minimumf (minimumf (leftOf t) t) (minimumf (maximumf (leftOf t) t) (rightOf t))

/-- The middle one. -/
def mid3 (t : FVec F S64x256 .f32) : FVec F S64x256 .f32 :=
  maximumf (minimumf (leftOf t) t) (minimumf (maximumf (leftOf t) t) (rightOf t))

/-- The greatest one. -/
def top3 (t : FVec F S64x256 .f32) : FVec F S64x256 .f32 := maximumf (maximumf (leftOf t) t) (rightOf t)

/-- The median of three. -/
def med3 (a b c : FVec F S64x256 .f32) : FVec F S64x256 .f32 := maximumf (minimumf a b) (minimumf (maximumf a b) c)

/-- The median over the three-by-three neighbourhood, replicating at the image's edges. -/
def median (i : grid0.Coords) (ch : FVec F S66x256 .f32) : FVec F S64x256 .f32 :=
  let cur : FVec F S64x256 .f32 := extractStridedSlice S64x256 ![1, 0] ch
  let up : FVec F S64x256 .f32 := select (cmpi .eq (rowsO i) (broadcast S64x256 0#32)) cur (extractStridedSlice S64x256 ![0, 0] ch)
  let dn : FVec F S64x256 .f32 := select (cmpi .eq (rowsO i) (broadcast S64x256 255#32)) cur (extractStridedSlice S64x256 ![2, 0] ch)
  med3 (maximumf (maximumf (low3 up) (low3 cur)) (low3 dn)) (med3 (mid3 up) (mid3 cur) (mid3 dn))
    (minimumf (minimumf (top3 up) (top3 cur)) (top3 dn))

/-- The flow of grid point `i` before the median, from its bands. -/
def flowOf (i : grid0.Coords) (xf xg : FVec F S80x272 .f32) (u : FVec F S260x256 .bf16) (w : FVec F S260x512 .f32) : FVec F S66x256 .f32 × FVec F S66x256 .f32 :=
  flow w (plane i xf) (gradX i (plane i xf)) (gradY i (plane i xf))
    (search u w (plane i xf) (plane i xg) (gradX i (plane i xf)) (gradY i (plane i xf)))

end Cert.Flow

end
-- ==== Proof.Median.lean ====
/- The median of nine extended reals: a network of minima and maxima over three sorted rows finds the middle
   element of the sorted nine. -/
module

public import Idealize.ShloMosaic.Lib.SortFacts
public import Mathlib.Order.Fin.Basic
public import Mathlib.Order.Lattice
public import Mathlib.Data.Finset.Card
public import Mathlib.Tactic.Linarith

@[expose] public section

namespace Cert.Flow

open Idealize.ShloMosaic

variable {α : Type} [LinearOrder α]

/-- The least, middle and greatest of three, and the median of three, by minima and maxima. -/
def lo3 (a b c : α) : α := min (min a b) (min (max a b) c)
/-- The middle of three. -/
def mi3 (a b c : α) : α := max (min a b) (min (max a b) c)
/-- The greatest of three. -/
def hi3 (a b c : α) : α := max (max a b) c

/-- The network: row minima's maximum, middles' middle, maxima's minimum, and the middle of those. -/
def net9 (x : Fin 9 → α) : α :=
  mi3 (max (max (lo3 (x 0) (x 1) (x 2)) (lo3 (x 3) (x 4) (x 5))) (lo3 (x 6) (x 7) (x 8)))
    (mi3 (mi3 (x 0) (x 1) (x 2)) (mi3 (x 3) (x 4) (x 5)) (mi3 (x 6) (x 7) (x 8)))
    (min (min (hi3 (x 0) (x 1) (x 2)) (hi3 (x 3) (x 4) (x 5))) (hi3 (x 6) (x 7) (x 8)))

/-- Whether an element is at least `z`. -/
def least (z a : α) : Bool := !decide (a < z)

/-- The network commutes with a threshold: whether its value reaches `z` depends only on which inputs do. -/
theorem least_net9 (x : Fin 9 → α) (z : α) : least z (net9 x) = net9 fun k => least z (x k) := by
  have hmax : ∀ a b : α, least z (max a b) = max (least z a) (least z b) := fun a b => by
    rcases le_total a b with h | h
    · rw [max_eq_right h]
      by_cases hb : b < z
      · simp [least, hb, lt_of_le_of_lt h hb]
      · simp [least, hb]
    · rw [max_eq_left h]
      by_cases ha : a < z
      · simp [least, ha, lt_of_le_of_lt h ha]
      · simp [least, ha]
  have hmin : ∀ a b : α, least z (min a b) = min (least z a) (least z b) := fun a b => by
    rcases le_total a b with h | h
    · rw [min_eq_left h]
      by_cases ha : a < z
      · simp [least, ha]
      · have hb : ¬ b < z := fun hb => ha (lt_of_le_of_lt h hb)
        simp [least, ha, hb]
    · rw [min_eq_right h]
      by_cases hb : b < z
      · simp [least, hb]
      · have ha : ¬ a < z := fun ha => hb (lt_of_le_of_lt h ha)
        simp [least, ha, hb]
  simp only [net9, lo3, mi3, hi3, hmax, hmin]

/-- On truth values the network is the majority of the nine. -/
theorem net9_bool : ∀ b : Fin 9 → Bool, net9 b = decide (5 ≤ (Finset.univ.filter fun k => b k = true).card) := by
  suffices h : ∀ b0 b1 b2 b3 b4 b5 b6 b7 b8 : Bool, net9 ![b0, b1, b2, b3, b4, b5, b6, b7, b8] =
      decide (5 ≤ (Finset.univ.filter fun k => ![b0, b1, b2, b3, b4, b5, b6, b7, b8] k = true).card) by
    intro b
    have hb : b = ![b 0, b 1, b 2, b 3, b 4, b 5, b 6, b 7, b 8] := by
      funext k
      fin_cases k <;> rfl
    rw [hb]
    exact h ..
  decide +kernel

/-- A nondecreasing rearrangement of the nine puts the network's value at place four. -/
theorem sorted_eq_net9 (x : Fin 9 → α) (σ : Fin 9 → Fin 9) (hσ : Function.Bijective σ)
    (hs : ∀ i j, i < j → x (σ i) ≤ x (σ j)) : x (σ 4) = net9 x := by
  have hcard : ∀ z : α, (Finset.univ.filter fun k => least z (x k) = true).card
      = (Finset.univ.filter fun k => least z (x (σ k)) = true).card := by
    intro z
    refine (Finset.card_bij (fun k _ => σ k) ?_ ?_ ?_).symm
    · intro k hk; simpa [least] using hk
    · intro a _ b _ h; exact hσ.1 h
    · intro b hb
      obtain ⟨k, rfl⟩ := hσ.2 b
      exact ⟨k, by simpa [least] using hb, rfl⟩
  have hmono : ∀ i j : Fin 9, i ≤ j → x (σ i) ≤ x (σ j) := fun i j h => by
    rcases h.lt_or_eq with h | rfl
    · exact hs i j h
    · exact le_rfl
  have key : ∀ z : α, x (σ 4) < z ↔ net9 x < z := by
    intro z
    have h1 := least_net9 x z
    rw [net9_bool, hcard] at h1
    have h2 : (5 ≤ (Finset.univ.filter fun k => least z (x (σ k)) = true).card) ↔ ¬ x (σ 4) < z := by
      constructor
      · intro h h4
        have hsub : (Finset.univ.filter fun k => least z (x (σ k)) = true) ⊆ Finset.univ.filter fun k : Fin 9 => 4 < k := by
          intro k hk
          simp only [Finset.mem_filter, Finset.mem_univ, true_and] at hk ⊢
          by_contra hle
          have := lt_of_le_of_lt (hmono k 4 (not_lt.mp hle)) h4
          simp [least, this] at hk
        have hc := Finset.card_le_card hsub
        have : (Finset.univ.filter fun k : Fin 9 => 4 < k).card = 4 := by decide
        omega
      · intro h4
        have hsub : (Finset.univ.filter fun k : Fin 9 => 4 ≤ k) ⊆ (Finset.univ.filter fun k => least z (x (σ k)) = true) := by
          intro k hk
          simp only [Finset.mem_filter, Finset.mem_univ, true_and] at hk ⊢
          have : ¬ x (σ k) < z := fun h => h4 (lt_of_le_of_lt (hmono 4 k hk) h)
          simp [least, this]
        have hc := Finset.card_le_card hsub
        have : (Finset.univ.filter fun k : Fin 9 => 4 ≤ k).card = 5 := by decide
        omega
    have h3 : least z (net9 x) = true ↔ ¬ x (σ 4) < z := by
      rw [h1, decide_eq_true_iff]
      exact h2
    have h4 : least z (net9 x) = true ↔ ¬ net9 x < z := by simp [least]
    exact not_iff_not.mp (h3.symm.trans h4)
  refine le_antisymm ?_ ?_
  · by_contra h
    exact lt_irrefl _ ((key _).mpr (not_le.mp h))
  · by_contra h
    exact lt_irrefl _ ((key _).mp (not_le.mp h))

/-- The stable sort of nine by a comparator that is the order puts the network's value at place four. -/
theorem sortedFrom_net9 (x : Fin 9 → α) (before : Fin 9 → Fin 9 → Bool) (hb : ∀ k k', before k k' = decide (x k < x k')) :
    x (sortedFrom before 4) = net9 x := by
  refine sorted_eq_net9 x (sortedFrom before)
    ⟨sortedFrom_injective before, sortedFrom_surjective before⟩ fun i j hij => ?_
  have h := sortedFrom_noInversion before before ?_ (fun _ _ h => h) ?_ i j hij
  · rw [hb] at h
    simpa using h
  · intro a b h
    rw [hb] at h ⊢
    simp only [decide_eq_true_eq, decide_eq_false_iff_not, not_lt] at h ⊢
    exact h.le
  · intro a b c h1 h2
    rw [hb] at h1 h2 ⊢
    simp only [decide_eq_false_iff_not, not_lt] at h1 h2 ⊢
    exact h2.trans h1

end Cert.Flow

end
-- ==== Proof.Tab.lean ====
/- Two-dimensional arrays as functions of whole-number coordinates, and how the operations act on them. -/
module

public import Idealize.ShloMosaic.Lib.MatmulPlain
public import Idealize.ShloMosaic.Lib.Pipeline.Value
public import Idealize.ShloMosaic.Lib.Pointwise.SelectCore
public import Idealize.ShloMosaic.PureOps.Ideal.Laws

@[expose] public section

set_option maxRecDepth 16384

noncomputable section

namespace Cert.Tab

open Idealize.ShloMosaic

/-- The shape with `m` rows and `n` columns. -/
abbrev Sh (m n : ℕ) : Shape := ⟨2, ![m, n]⟩

variable {α : Type} {m n : ℕ}

/-- The array `x` holds `φ` at its coordinates. -/
def Is (x : (Sh m n).Idx → α) (φ : ℤ → ℤ → α) : Prop := ∀ j : (Sh m n).Idx, x j = φ ((j 0).val : ℤ) ((j 1).val : ℤ)

theorem lt0 (j : (Sh m n).Idx) : ((j 0).val : ℤ) < m := by exact_mod_cast (j 0).isLt
theorem lt1 (j : (Sh m n).Idx) : ((j 1).val : ℤ) < n := by exact_mod_cast (j 1).isLt

/-- Only the coordinates in range matter. -/
theorem Is.congr {x : (Sh m n).Idx → α} {φ ψ : ℤ → ℤ → α} (h : Is x φ)
    (he : ∀ r c : ℤ, 0 ≤ r → r < m → 0 ≤ c → c < n → φ r c = ψ r c) : Is x ψ := fun j =>
  (h j).trans (he _ _ (Int.natCast_nonneg _) (lt0 j) (Int.natCast_nonneg _) (lt1 j))

/-- A slice shifts the coordinates. -/
theorem Is.slice {x : (Sh m n).Idx → α} {φ : ℤ → ℤ → α} (h : Is x φ) {m' n' a b : ℕ} (hs : (Sh m n).Slices ![a, b] (Sh m' n')) :
    Is (extractStridedSlice (Sh m' n') ![a, b] x hs) fun r c => φ (a + r) (b + c) := fun j => by
  refine (h _).trans ?_
  show φ ((a + (j 0).val : ℕ) : ℤ) ((b + (j 1).val : ℕ) : ℤ) = _
  push_cast
  rfl

/-- A constant array. -/
theorem Is.const (v : α) : Is (m := m) (n := n) (broadcast (Sh m n) v) fun _ _ => v := fun _ => rfl

/-- An operation element by element. -/
theorem Is.map₂ {β γ : Type} {x : (Sh m n).Idx → α} {y : (Sh m n).Idx → β} {φ : ℤ → ℤ → α} {ψ : ℤ → ℤ → β} (f : α → β → γ)
    (hx : Is x φ) (hy : Is y ψ) : Is (m := m) (n := n) (fun j => f (x j) (y j)) fun r c => f (φ r c) (ψ r c) := fun j =>
  congrArg₂ f (hx j) (hy j)

/-- An operation on each element. -/
theorem Is.map {β : Type} {x : (Sh m n).Idx → α} {φ : ℤ → ℤ → α} (f : α → β)
    (hx : Is x φ) : Is (m := m) (n := n) (fun j => f (x j)) fun r c => f (φ r c) := fun j => congrArg f (hx j)

/-- Two arrays side by side. -/
theorem Is.cols {n₁ n₂ : ℕ} {x : (Sh m n₁).Idx → α} {y : (Sh m n₂).Idx → α} {φ ψ : ℤ → ℤ → α} (hx : Is x φ) (hy : Is y ψ)
    (h : Shape.Concatenates [Sh m n₁, Sh m n₂] (Sh m n) 1) :
    Is (concatenate (Sh m n) 1 [⟨Sh m n₁, x⟩, ⟨Sh m n₂, y⟩] h) fun r c => if c < n₁ then φ r c else ψ r (c - n₁) := fun j => by
  have hn : n₁ + (n₂ + 0) = n := h.2.2
  have hc := (j 1).isLt
  have hc' : (j 1).val < n := hc
  beta_reduce
  by_cases h1 : (j 1).val < n₁
  · rw [if_pos (by exact_mod_cast h1)]
    exact (concatenate_apply_piece _ [⟨Sh m n₁, x⟩, ⟨Sh m n₂, y⟩] h j 0 (by simp) (Sh m n₁) x rfl rfl 0 rfl (ValueIdx.ix2 (j 0) ⟨(j 1).val, h1⟩)
      (fun b hb => by match b with | ⟨0, _⟩ => rfl | ⟨1, _⟩ => exact absurd rfl hb) (Nat.zero_add _)).trans (hx _)
  · rw [if_neg (by exact_mod_cast h1)]
    refine (concatenate_apply_piece _ [⟨Sh m n₁, x⟩, ⟨Sh m n₂, y⟩] h j 1 (by simp) (Sh m n₂) y rfl rfl n₁ rfl (ValueIdx.ix2 (j 0) ⟨(j 1).val - n₁, by omega⟩)
      (fun b hb => by match b with | ⟨0, _⟩ => rfl | ⟨1, _⟩ => exact absurd rfl hb) (Nat.add_sub_cancel' (not_lt.mp h1))).trans ((hy _).trans ?_)
    show ψ _ (((j 1).val - n₁ : ℕ) : ℤ) = _
    rw [Nat.cast_sub (not_lt.mp h1)]
    rfl

/-- Three arrays side by side. -/
theorem Is.cols₃ {n₁ n₂ n₃ : ℕ} {x : (Sh m n₁).Idx → α} {y : (Sh m n₂).Idx → α} {z : (Sh m n₃).Idx → α} {φ ψ χ : ℤ → ℤ → α}
    (hx : Is x φ) (hy : Is y ψ) (hz : Is z χ) (h : Shape.Concatenates [Sh m n₁, Sh m n₂, Sh m n₃] (Sh m n) 1) :
    Is (concatenate (Sh m n) 1 [⟨Sh m n₁, x⟩, ⟨Sh m n₂, y⟩, ⟨Sh m n₃, z⟩] h)
      fun r c => if c < n₁ then φ r c else if c < n₁ + n₂ then ψ r (c - n₁) else χ r (c - (n₁ + n₂)) := fun j => by
  have hn : n₁ + (n₂ + (n₃ + 0)) = n := h.2.2
  have hc' : (j 1).val < n := (j 1).isLt
  beta_reduce
  by_cases h1 : (j 1).val < n₁
  · rw [if_pos (by exact_mod_cast h1)]
    exact (concatenate_apply_piece _ [⟨Sh m n₁, x⟩, ⟨Sh m n₂, y⟩, ⟨Sh m n₃, z⟩] h j 0 (by simp) (Sh m n₁) x rfl rfl 0 rfl (ValueIdx.ix2 (j 0) ⟨(j 1).val, h1⟩)
      (fun b hb => by match b with | ⟨0, _⟩ => rfl | ⟨1, _⟩ => exact absurd rfl hb) (Nat.zero_add _)).trans (hx _)
  · rw [if_neg (by exact_mod_cast h1)]
    by_cases h2 : (j 1).val < n₁ + n₂
    · rw [if_pos (by exact_mod_cast h2)]
      refine (concatenate_apply_piece _ [⟨Sh m n₁, x⟩, ⟨Sh m n₂, y⟩, ⟨Sh m n₃, z⟩] h j 1 (by simp) (Sh m n₂) y rfl rfl n₁ rfl (ValueIdx.ix2 (j 0) ⟨(j 1).val - n₁, by omega⟩)
        (fun b hb => by match b with | ⟨0, _⟩ => rfl | ⟨1, _⟩ => exact absurd rfl hb) (Nat.add_sub_cancel' (not_lt.mp h1))).trans ((hy _).trans ?_)
      show ψ _ (((j 1).val - n₁ : ℕ) : ℤ) = _
      rw [Nat.cast_sub (not_lt.mp h1)]
      rfl
    · rw [if_neg (by exact_mod_cast h2)]
      refine (concatenate_apply_piece _ [⟨Sh m n₁, x⟩, ⟨Sh m n₂, y⟩, ⟨Sh m n₃, z⟩] h j 2 (by simp) (Sh m n₃) z rfl rfl (n₁ + n₂) rfl (ValueIdx.ix2 (j 0) ⟨(j 1).val - (n₁ + n₂), by omega⟩)
        (fun b hb => by match b with | ⟨0, _⟩ => rfl | ⟨1, _⟩ => exact absurd rfl hb) (Nat.add_sub_cancel' (not_lt.mp h2))).trans ((hz _).trans ?_)
      show χ _ (((j 1).val - (n₁ + n₂) : ℕ) : ℤ) = _
      rw [Nat.cast_sub (not_lt.mp h2)]
      push_cast
      rfl

/-- Three arrays one above the other. -/
theorem Is.rows₃ {n₁ n₂ n₃ : ℕ} {x : (Sh n₁ n).Idx → α} {y : (Sh n₂ n).Idx → α} {z : (Sh n₃ n).Idx → α} {φ ψ χ : ℤ → ℤ → α}
    (hx : Is x φ) (hy : Is y ψ) (hz : Is z χ) (h : Shape.Concatenates [Sh n₁ n, Sh n₂ n, Sh n₃ n] (Sh m n) 0) :
    Is (concatenate (Sh m n) 0 [⟨Sh n₁ n, x⟩, ⟨Sh n₂ n, y⟩, ⟨Sh n₃ n, z⟩] h)
      fun r c => if r < n₁ then φ r c else if r < n₁ + n₂ then ψ (r - n₁) c else χ (r - (n₁ + n₂)) c := fun j => by
  have hn : n₁ + (n₂ + (n₃ + 0)) = m := h.2.2
  have hc' : (j 0).val < m := (j 0).isLt
  beta_reduce
  by_cases h1 : (j 0).val < n₁
  · rw [if_pos (by exact_mod_cast h1)]
    exact (concatenate_apply_piece _ [⟨Sh n₁ n, x⟩, ⟨Sh n₂ n, y⟩, ⟨Sh n₃ n, z⟩] h j 0 (by simp) (Sh n₁ n) x rfl rfl 0 rfl (ValueIdx.ix2 ⟨(j 0).val, h1⟩ (j 1))
      (fun b hb => by match b with | ⟨0, _⟩ => exact absurd rfl hb | ⟨1, _⟩ => rfl) (Nat.zero_add _)).trans (hx _)
  · rw [if_neg (by exact_mod_cast h1)]
    by_cases h2 : (j 0).val < n₁ + n₂
    · rw [if_pos (by exact_mod_cast h2)]
      refine (concatenate_apply_piece _ [⟨Sh n₁ n, x⟩, ⟨Sh n₂ n, y⟩, ⟨Sh n₃ n, z⟩] h j 1 (by simp) (Sh n₂ n) y rfl rfl n₁ rfl (ValueIdx.ix2 ⟨(j 0).val - n₁, by omega⟩ (j 1))
        (fun b hb => by match b with | ⟨0, _⟩ => exact absurd rfl hb | ⟨1, _⟩ => rfl) (Nat.add_sub_cancel' (not_lt.mp h1))).trans ((hy _).trans ?_)
      show ψ (((j 0).val - n₁ : ℕ) : ℤ) _ = _
      rw [Nat.cast_sub (not_lt.mp h1)]
      rfl
    · rw [if_neg (by exact_mod_cast h2)]
      refine (concatenate_apply_piece _ [⟨Sh n₁ n, x⟩, ⟨Sh n₂ n, y⟩, ⟨Sh n₃ n, z⟩] h j 2 (by simp) (Sh n₃ n) z rfl rfl (n₁ + n₂) rfl (ValueIdx.ix2 ⟨(j 0).val - (n₁ + n₂), by omega⟩ (j 1))
        (fun b hb => by match b with | ⟨0, _⟩ => exact absurd rfl hb | ⟨1, _⟩ => rfl) (Nat.add_sub_cancel' (not_lt.mp h2))).trans ((hz _).trans ?_)
      show χ (((j 0).val - (n₁ + n₂) : ℕ) : ℤ) _ = _
      rw [Nat.cast_sub (not_lt.mp h2)]
      push_cast
      rfl

/-! ## Arrays of reals -/

/-- The array `x` holds the reals `φ` at its coordinates. -/
abbrev IsR (x : (Sh m n).Idx → EReal) (φ : ℤ → ℤ → ℝ) : Prop := Is x fun r c => ((φ r c : ℝ) : EReal)

theorem IsR.congr {x : (Sh m n).Idx → EReal} {φ ψ : ℤ → ℤ → ℝ} (h : IsR x φ)
    (he : ∀ r c : ℤ, 0 ≤ r → r < m → 0 ≤ c → c < n → φ r c = ψ r c) : IsR x ψ :=
  Is.congr h fun r c a b d e => congrArg _ (he r c a b d e)

variable {x y : FVec Ideal (Sh m n) .f32} {φ ψ : ℤ → ℤ → ℝ}

theorem IsR.add (hx : IsR x φ) (hy : IsR y ψ) : IsR (addf x y) fun r c => φ r c + ψ r c := fun j =>
  (congrArg₂ (fun a b : EReal => a + b) (hx j) (hy j)).trans (EReal.coe_add _ _).symm

theorem IsR.sub (hx : IsR x φ) (hy : IsR y ψ) : IsR (subf x y) fun r c => φ r c - ψ r c := fun j =>
  (congrArg₂ (fun a b : EReal => a - b) (hx j) (hy j)).trans (EReal.coe_sub _ _).symm

theorem IsR.mul (hx : IsR x φ) (hy : IsR y ψ) : IsR (mulf x y) fun r c => φ r c * ψ r c := fun j =>
  (congrArg₂ (fun a b : EReal => a * b) (hx j) (hy j)).trans (EReal.coe_mul _ _).symm

/-- The absolute value of a real among the extended reals. -/
theorem abs_coe (r : ℝ) : max (r : EReal) (-(r : EReal)) = ((|r| : ℝ) : EReal) := by
  rw [← EReal.coe_neg, ← EReal.coe_strictMono.monotone.map_max]
  rfl

theorem IsR.abs (hx : IsR x φ) : IsR (absf x) fun r c => |φ r c| := fun j =>
  (congrArg (fun a : EReal => max a (-a)) (hx j)).trans (abs_coe _)

theorem IsR.floor (hx : IsR x φ) : IsR (floor x) fun r c => ((⌊φ r c⌋ : ℤ) : ℝ) := fun j =>
  congrArg (Ideal.liftRound Int.floor) (hx j)

/-- A sum of reals among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row times a column of ones at `n` consecutive places sums those places. -/
theorem sum_band (K a n : ℕ) (h : a + n ≤ K) (f : ℤ → ℝ) :
    (∑ k : Fin K, f (k.val : ℤ) * (if a ≤ k.val ∧ k.val < a + n then 1 else 0)) = ∑ i ∈ Finset.range n, f ((a : ℤ) + (i : ℤ)) := by
  rw [Fin.sum_univ_eq_sum_range (fun k : ℕ => f (k : ℤ) * (if a ≤ k ∧ k < a + n then 1 else 0)) K]
  simp only [mul_ite, mul_one, mul_zero]
  rw [← Finset.sum_filter]
  have : (Finset.range K).filter (fun k => a ≤ k ∧ k < a + n) = Finset.Ico a (a + n) := by
    ext k
    simp only [Finset.mem_filter, Finset.mem_range, Finset.mem_Ico]
    omega
  rw [this, Finset.sum_Ico_eq_sum_range, Nat.add_sub_cancel_left]
  exact Finset.sum_congr rfl fun i _ => by push_cast; rfl

/-- A matrix product with a matrix whose columns are ones at consecutive places. -/
theorem IsR.band {K N : ℕ} {χ : FTy} {x : FVec Ideal (Sh m K) χ} {w : FVec Ideal (Sh K N) χ} {φ : ℤ → ℤ → ℝ} (hx : IsR x φ)
    (lo len : ℕ → ℕ) (hw : ∀ (k : Fin K) (c : Fin N), w (ValueIdx.ix2 k c) = ((if lo c.val ≤ k.val ∧ k.val < lo c.val + len c.val then 1 else 0 : ℝ) : EReal))
    (hlo : ∀ c < N, lo c + len c ≤ K) (prec : Option ContractPrecision) (acc : FVec Ideal (Sh m N) .f32) (hacc : ∀ j, acc j = 0) :
    IsR (matmul (DotDims.plain m K N) prec x w acc) fun r c => ∑ i ∈ Finset.range (len c.toNat), φ r ((lo c.toNat : ℤ) + (i : ℤ)) := fun j => by
  obtain ⟨p, q, rfl⟩ : ∃ p q, j = ValueIdx.ix2 p q := ⟨j 0, j 1, ValueIdx.eq_ix2 j⟩
  have h := Ideal.matmul_plain_apply (M := m) (K := K) (N := N) prec x w acc p q
  rw [hacc, zero_add] at h
  refine h.trans ?_
  have : ∀ k : Fin K, x (ValueIdx.ix2 p k) * w (ValueIdx.ix2 k q)
      = ((φ (p.val : ℤ) (k.val : ℤ) * (if lo q.val ≤ k.val ∧ k.val < lo q.val + len q.val then 1 else 0) : ℝ) : EReal) := fun k => by
    rw [hw, EReal.coe_mul]
    exact congrArg (· * _) (hx _)
  simp only [this]
  rw [sum_coe, sum_band K _ _ (hlo _ q.isLt)]
  rfl

end Cert.Tab

end
-- ==== Proof.Spec.lean ====
/- What both programs compute, on whole-number pixel coordinates: the quantised images, their gradients, the patch
   costs, the search's choice, the sub-pixel step and the median. -/
module

public import proofs.«01_k».proof.Proof.Body
public import proofs.«01_k».proof.Proof.Median
public import proofs.«01_k».proof.Proof.Tab
public import Idealize.ShloMosaic.Lib.IdealHost

@[expose] public section

set_option maxRecDepth 16384

noncomputable section

namespace Cert.Spec

open Idealize.ShloMosaic

/-! ## Words -/

theorem w_two : Ideal.ofBits .f32 0x40000000#32 = ((2 : ℝ) : EReal) := by simp [Ideal.ofBits, Ideal.ieee, -EReal.coe_mul]; norm_num
theorem w_four : Ideal.ofBits .f32 0x40800000#32 = ((4 : ℝ) : EReal) := by simp [Ideal.ofBits, Ideal.ieee, -EReal.coe_mul]; norm_num
theorem w_quarter : Ideal.ofBits .f32 0x3E800000#32 = ((1 / 4 : ℝ) : EReal) := by simp [Ideal.ofBits, Ideal.ieee, -EReal.coe_mul]; norm_num
theorem w_255 : Ideal.ofBits .f32 0x437F0000#32 = ((255 : ℝ) : EReal) := by simp [Ideal.ofBits, Ideal.ieee, -EReal.coe_mul]; norm_num
theorem w_256 : Ideal.ofBits .f32 0x43800000#32 = ((256 : ℝ) : EReal) := by simp [Ideal.ofBits, Ideal.ieee, -EReal.coe_mul]; norm_num
theorem w_over256 : Ideal.ofBits .f32 0x3B800000#32 = ((1 / 256 : ℝ) : EReal) := by simp [Ideal.ofBits, Ideal.ieee, -EReal.coe_mul]; norm_num
theorem w_zero : Ideal.ofBits .f32 0x00000000#32 = ((0 : ℝ) : EReal) := by rw [Ideal.ofBits_zero_f32]; rfl
theorem w_one : Ideal.ofBits .f32 0x3F800000#32 = ((1 : ℝ) : EReal) := by rw [Ideal.ofBits_one_f32]; rfl
theorem w_three : Ideal.ofBits .f32 0x40400000#32 = ((3 : ℝ) : EReal) := by simp [Ideal.ofBits, Ideal.ieee, -EReal.coe_mul]; norm_num
theorem w_neg1 : Ideal.ofBits .f32 0xBF800000#32 = ((-1 : ℝ) : EReal) := by simp [Ideal.ofBits, Ideal.ieee, -EReal.coe_mul, -EReal.coe_neg]; norm_num
theorem w_neg2 : Ideal.ofBits .f32 0xC0000000#32 = ((-2 : ℝ) : EReal) := by simp [Ideal.ofBits, Ideal.ieee, -EReal.coe_mul, -EReal.coe_neg]; norm_num
theorem w_neg3 : Ideal.ofBits .f32 0xC0400000#32 = ((-3 : ℝ) : EReal) := by simp [Ideal.ofBits, Ideal.ieee, -EReal.coe_mul, -EReal.coe_neg]; norm_num
theorem w_inf : Ideal.ofBits .f32 0x7F800000#32 = ⊤ := by simp [Ideal.ofBits, Ideal.ieee]

/-! ## The quantised image -/

/-- An image argument. -/
abbrev Img := (⟨4, ![1, 1, 256, 256]⟩ : Shape).Idx → EReal

/-- A coordinate moved to the nearest one of the image. -/
def cl (y : ℤ) : Fin 256 := ⟨(max 0 (min y 255)).toNat, by omega⟩

/-- The pixel nearest to `(y, x)`. -/
def pix (f : Img) (y x : ℤ) : EReal := f (ValueIdx.ix4 0 0 (cl y) (cl x))

/-- The binomial mean of three. -/
def blend (a b c : EReal) : EReal := ((a + Ideal.ofBits .f32 0x40000000#32 * b) + c) * Ideal.ofBits .f32 0x3E800000#32

/-- The smoothed image: down the columns, then along the rows. -/
def smooth (f : ℤ → ℤ → EReal) (y x : ℤ) : EReal :=
  blend (blend (f (y - 1) (x - 1)) (f y (x - 1)) (f (y + 1) (x - 1))) (blend (f (y - 1) x) (f y x) (f (y + 1) x))
    (blend (f (y - 1) (x + 1)) (f y (x + 1)) (f (y + 1) (x + 1)))

/-- A number times 255, rounded and kept within a byte. -/
def byte (s : EReal) : EReal := min (Ideal.ofBits .f32 0x437F0000#32) (max (Ideal.ofBits .f32 0x00000000#32)
  (Ideal.liftRound Ideal.roundHalfEven (s * Ideal.ofBits .f32 0x437F0000#32)))

theorem byte_real (s : EReal) : byte s = (((byte s).toReal : ℝ) : EReal) := by
  refine (EReal.coe_toReal ?_ ?_).symm
  · refine ne_top_of_le_ne_top (b := Ideal.ofBits .f32 0x437F0000#32) ?_ (min_le_left _ _)
    rw [w_255]
    exact EReal.coe_ne_top _
  · refine ne_bot_of_le_ne_bot (EReal.coe_ne_bot 0) (show ((0 : ℝ) : EReal) ≤ byte s from le_min ?_ ?_)
    · rw [w_255]
      exact EReal.coe_le_coe_iff.mpr (by norm_num)
    · rw [w_zero]
      exact le_max_left _ _

/-- Whether a pixel lies in the image. -/
abbrev In (y x : ℤ) : Prop := 0 ≤ y ∧ y < 256 ∧ 0 ≤ x ∧ x < 256

/-- The quantised image, zero outside. -/
def Z (f : Img) (y x : ℤ) : ℝ := if In y x then (byte (smooth (pix f) y x)).toReal else 0

/-- The vertical difference, replicating at the edges, zero outside. -/
def GY (z : ℤ → ℤ → ℝ) (y x : ℤ) : ℝ := if In y x then z (min (y + 1) 255) x - z (max (y - 1) 0) x else 0

/-- The horizontal difference, replicating at the edges, zero outside. -/
def GX (z : ℤ → ℤ → ℝ) (y x : ℤ) : ℝ := if In y x then z y (min (x + 1) 255) - z y (max (x - 1) 0) else 0

/-! ## The search -/

/-- The image displaced by `(a - 3, b - 3)`. -/
def shift (g : ℤ → ℤ → ℝ) (d : Fin 7 × Fin 7) (y x : ℤ) : ℝ := g (y + ((d.1.val : ℤ) - 3)) (x + ((d.2.val : ℤ) - 3))

/-- The sum over the five-by-five patch around a pixel. -/
def sum5 (p : ℤ → ℤ → ℝ) (y x : ℤ) : ℝ := ∑ i ∈ Finset.range 5, ∑ j ∈ Finset.range 5, p (y - 2 + (i : ℤ)) (x - 2 + (j : ℤ))

/-- The sum over its middle three-by-three. -/
def sum3 (p : ℤ → ℤ → ℝ) (y x : ℤ) : ℝ := ∑ i ∈ Finset.range 3, ∑ j ∈ Finset.range 3, p (y - 1 + (i : ℤ)) (x - 1 + (j : ℤ))

/-- The sum over the patch's border. -/
def brd (p : ℤ → ℤ → ℝ) (y x : ℤ) : ℝ := sum5 p y x - sum3 p y x

/-- The sum of absolute differences at a displacement. -/
def cost (f g : ℤ → ℤ → ℝ) (d : Fin 7 × Fin 7) (y x : ℤ) : ℝ := sum5 (fun y x => |shift g d y x - f y x|) y x

/-- The search's choice: a later displacement replaces an earlier one where its cost is smaller. -/
def pick (C : Fin 7 × Fin 7 → ℝ) : Fin 7 × Fin 7 := Cert.Flow.spiral.foldl (fun e d => if C d < C e then d else e) (3, 3)

/-- The choice from a nonempty list is its first element of least cost. -/
theorem foldl_first {δ : Type} (C : δ → ℝ) (e : δ) (l : List δ) : ∃ (k : ℕ) (hk : k < (e :: l).length),
    (e :: l)[k] = l.foldl (fun e d => if C d < C e then d else e) e ∧
    (∀ m (hm : m < (e :: l).length), C (e :: l)[k] ≤ C (e :: l)[m]) ∧ ∀ m (hm : m < k), C (e :: l)[k] < C ((e :: l)[m]'(hm.trans hk)) := by
  induction l using List.reverseRecOn with
  | nil => exact ⟨0, by simp, rfl, fun m hm => by obtain rfl : m = 0 := by simpa using hm
                                                  exact le_rfl, fun m hm => absurd hm (by omega)⟩
  | append_singleton l a ih =>
    obtain ⟨k, hk, hp, hle, hlt⟩ := ih
    have hg : ∀ m (hm : m < (e :: l).length), (e :: (l ++ [a]))[m]'(by simp at hm ⊢; omega) = (e :: l)[m] := fun m hm =>
      List.getElem_append_left (bs := [a]) hm
    have ha : (e :: (l ++ [a]))[l.length + 1]'(by simp) = a := by simp
    rw [List.foldl_concat, ← hp]
    by_cases hc : C a < C (e :: l)[k]
    · refine ⟨l.length + 1, by simp, by rw [ha, if_pos hc], fun m hm => ?_, fun m hm => ?_⟩
      · rw [ha]
        rcases Nat.lt_or_ge m (e :: l).length with h | h
        · rw [hg m h]
          exact hc.le.trans (hle m h)
        · have hm' : m = l.length + 1 := by simp at hm h; omega
          subst hm'
          rw [ha]
      · have hm' : m < (e :: l).length := by simpa using hm
        rw [ha, hg m hm']
        exact hc.trans_le (hle m hm')
    · refine ⟨k, by simp at hk ⊢; omega, by rw [hg k hk, if_neg hc], fun m hm => ?_, fun m hm => ?_⟩
      · rw [hg k hk]
        rcases Nat.lt_or_ge m (e :: l).length with h | h
        · rw [hg m h]
          exact hle m h
        · have hm' : m = l.length + 1 := by simp at hm h; omega
          subst hm'
          rw [ha]
          exact not_lt.mp hc
      · rw [hg k hk, hg m (hm.trans hk)]
        exact hlt m hm

/-- The displacement of number `k`. -/
def disp (k : Fin 49) : Fin 7 × Fin 7 := ((3, 3) :: Cert.Flow.spiral)[k.val]

/-- The search's choice is the first displacement of least cost. -/
theorem pick_first (C : Fin 7 × Fin 7 → ℝ) : ∃ k : Fin 49, disp k = pick C ∧ (∀ m, C (disp k) ≤ C (disp m)) ∧ ∀ m < k, C (disp k) < C (disp m) := by
  obtain ⟨k, hk, hp, hle, hlt⟩ := foldl_first C (3, 3) Cert.Flow.spiral
  exact ⟨⟨k, hk⟩, hp, fun m => hle m.val m.isLt, fun m hm => hlt m.val hm⟩

/-! ## The sub-pixel step -/

/-- The determinant, one where it is too small. -/
def safe (det : EReal) : EReal := Scalar.select (Ideal.cmp .ole det (Ideal.ofBits .f32 0x33D6BF95#32)) (Ideal.ofBits .f32 0x3F800000#32) det

/-- A component, zero where the determinant is too small or the component reaches one. -/
def clear (det u : EReal) : EReal := Scalar.select (IntOp.ori (Ideal.cmp .ole det (Ideal.ofBits .f32 0x33D6BF95#32))
  (Ideal.cmp .oge (max u (-u)) (Ideal.ofBits .f32 0x3F800000#32))) (Ideal.ofBits .f32 0x00000000#32) u

/-- The two-by-two system's solution: the row component, then the column component. -/
def solve (a b d p q : EReal) : EReal × EReal :=
  (clear (a * d - b * b) (Ideal.div (a * q - b * p) (safe (a * d - b * b))), clear (a * d - b * b) (Ideal.div (d * p - b * q) (safe (a * d - b * b))))

/-- The border sum of the products of two arrays, scaled. -/
def gram (s : ℝ) (p q : ℤ → ℤ → ℝ) (y x : ℤ) : EReal := ((brd (fun y x => p y x * q y x) y x * s : ℝ) : EReal)

/-- The border sums of the displaced image and of the image against a gradient: their scaled difference. -/
def cross (f g : ℤ → ℤ → ℝ) (d : Fin 7 × Fin 7) (e : ℤ → ℤ → ℝ) (y x : ℤ) : EReal :=
  (((brd (fun y x => shift g d y x * e y x) y x - brd (fun y x => f y x * e y x) y x) * (1 / 130050) : ℝ) : EReal)

/-- The sub-pixel step at displacement `d`. -/
def sub (f g : ℤ → ℤ → ℝ) (d : Fin 7 × Fin 7) (y x : ℤ) : EReal × EReal :=
  solve (gram (1 / 260100) (GX f) (GX f) y x) (gram (1 / 260100) (GX f) (GY f) y x) (gram (1 / 260100) (GY f) (GY f) y x)
    (cross f g d (GX f) y x) (cross f g d (GY f) y x)

/-- The displacement chosen at a pixel. -/
def best (f g : ℤ → ℤ → ℝ) (y x : ℤ) : Fin 7 × Fin 7 := pick fun d => cost f g d y x

/-- The flow's row component before the median. -/
def flowY (f g : ℤ → ℤ → ℝ) (y x : ℤ) : EReal := ((3 - ((best f g y x).1.val : ℝ) : ℝ) : EReal) + (sub f g (best f g y x) y x).1

/-- The flow's column component before the median. -/
def flowX (f g : ℤ → ℤ → ℝ) (y x : ℤ) : EReal := ((3 - ((best f g y x).2.val : ℝ) : ℝ) : EReal) + (sub f g (best f g y x) y x).2

/-! ## The median -/

/-- The median of the three-by-three neighbourhood, replicating at the edges. -/
def med (t : ℤ → ℤ → EReal) (y x : ℤ) : EReal := Cert.Flow.net9 fun k : Fin 9 =>
  t (max 0 (min (y - 1 + (k.val / 3 : ℕ)) 255)) (max 0 (min (x - 1 + (k.val % 3 : ℕ)) 255))

end Cert.Spec

end
-- ==== Proof.Pads.lean ====
/- Images repeated at their edges, on whole-number pixel coordinates. -/
module

public import proofs.«01_k».proof.Proof.Spec

@[expose] public section

set_option maxRecDepth 16384

noncomputable section

namespace Cert.Tab

open Idealize.ShloMosaic

variable {α : Type} {m n : ℕ} {φ : ℤ → ℤ → α}

/-- One row repeated. -/
theorem Is.bcastRow {x : (Sh 1 n).Idx → α} (hx : Is x φ) (h : (Sh 1 n).BroadcastsInDim (Sh m n) ![0, 1]) :
    Is (broadcastInDim (Sh m n) ![0, 1] h x) fun _ c => φ 0 c := fun j => by
  refine (hx _).trans ?_
  by_cases hn : n = 1
  · subst hn
    have h0 : (j 1).val = 0 := by have : (j 1).val < 1 := (j 1).isLt; omega
    show φ _ _ = φ 0 ((j 1).val : ℤ)
    rw [h0]
    rfl
  · have : ¬ (Sh 1 n).size 1 = 1 := hn
    rw [dif_neg this]
    rfl

/-- One column repeated. -/
theorem Is.bcastCol {x : (Sh m 1).Idx → α} (hx : Is x φ) (h : (Sh m 1).BroadcastsInDim (Sh m n) ![0, 1]) :
    Is (broadcastInDim (Sh m n) ![0, 1] h x) fun r _ => φ r 0 := fun j => by
  refine (hx _).trans ?_
  by_cases hm : m = 1
  · subst hm
    have h0 : (j 0).val = 0 := by have : (j 0).val < 1 := (j 0).isLt; omega
    show φ _ _ = φ ((j 0).val : ℤ) 0
    rw [h0]
    rfl
  · have : ¬ (Sh m 1).size 0 = 1 := hm
    rw [dif_neg this]
    rfl

/-- An image between `e` copies of its first row and `e` of its last. -/
theorem Is.frameRows {e m' : ℕ} {x : (Sh 256 n).Idx → α} {t b : (Sh e n).Idx → α} (hx : Is x φ) (ht : Is t fun _ c => φ 0 c) (hb : Is b fun _ c => φ 255 c)
    (h : Shape.Concatenates [Sh e n, Sh 256 n, Sh e n] (Sh m' n) 0) :
    Is (concatenate (Sh m' n) 0 [⟨Sh e n, t⟩, ⟨Sh 256 n, x⟩, ⟨Sh e n, b⟩] h) fun r c => φ (max 0 (min (r - e) 255)) c :=
  (Is.rows₃ ht hx hb h).congr fun r c h1 h2 h3 h4 => by
    beta_reduce
    push_cast
    split_ifs
    · congr 1; omega
    · congr 1; omega
    · congr 1; omega

/-- An image between `e` copies of its first column and `e` of its last. -/
theorem Is.frameCols {e n' : ℕ} {x : (Sh m 256).Idx → α} {t b : (Sh m e).Idx → α} (hx : Is x φ) (ht : Is t fun r _ => φ r 0) (hb : Is b fun r _ => φ r 255)
    (h : Shape.Concatenates [Sh m e, Sh m 256, Sh m e] (Sh m n') 1) :
    Is (concatenate (Sh m n') 1 [⟨Sh m e, t⟩, ⟨Sh m 256, x⟩, ⟨Sh m e, b⟩] h) fun r c => φ r (max 0 (min (c - e) 255)) :=
  (Is.cols₃ ht hx hb h).congr fun r c h1 h2 h3 h4 => by
    beta_reduce
    push_cast
    split_ifs
    · congr 1; omega
    · congr 1; omega
    · congr 1; omega

/-- An argument as a two-dimensional image. -/
theorem image_is (f : Spec.Img) (h : (⟨4, ![1, 1, 256, 256]⟩ : Shape).ShapeCasts (Sh 256 256)) :
    Is (shapeCast (Sh 256 256) f h) (Spec.pix f) := fun j => by
  have h0 : (j 0).val < 256 := (j 0).isLt
  have h1 : (j 1).val < 256 := (j 1).isLt
  unfold Spec.pix Spec.cl
  refine shapeCast_apply f h j _ ?_
  rw [Shape.rowMajor_val_four, Shape.rowMajor_val_two]
  simp only [ValueIdx.ix4]
  simp
  omega

/-- A clamped coordinate's pixel. -/
theorem pix_clamp (f : Spec.Img) (y x : ℤ) : Spec.pix f (max 0 (min y 255)) (max 0 (min x 255)) = Spec.pix f y x := by
  unfold Spec.pix Spec.cl
  congr 2
  · exact Fin.ext (by simp only; omega)
  · exact Fin.ext (by simp only; omega)

end Cert.Tab

end
-- ==== Proof.Stage.lean ====
/- One grid point's planes and gradients: the values the kernel computes from its padded bands. -/
module

public import proofs.«01_k».proof.Proof.Spec

@[expose] public section

set_option maxRecDepth 16384

noncomputable section

namespace Cert.Stage

open Cert.KernelIdeal Cert.KernelIdeal.Gen Idealize.ShloMosaic Cert.Tab Cert.Flow

/-! ## Masks -/

theorem select_if {α : Type} (p : Prop) [Decidable p] (a b : α) : Scalar.select (BitVec.ofBool (decide p)) a b = if p then a else b := by
  by_cases h : p
  · rw [decide_eq_true h, if_pos h]; rfl
  · rw [decide_eq_false h, if_neg h]; rfl

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

variable {m n : ℕ}

/-- A selection by a decided mask. -/
theorem select_is {α : Type} {k : IVec (Sh m n) 1} {P : ℤ → ℤ → Prop} [∀ r c, Decidable (P r c)] {x y : (Sh m n).Idx → α} {φ ψ : ℤ → ℤ → α}
    (hk : Is k fun r c => BitVec.ofBool (decide (P r c))) (hx : Is x φ) (hy : Is y ψ) :
    Is (select k x y) fun r c => if P r c then φ r c else ψ r c := fun j => by
  show Scalar.select (k j) (x j) (y j) = _
  rw [hk j, hx j, hy j, select_if]

theorem selectR {k : IVec (Sh m n) 1} {P : ℤ → ℤ → Prop} [∀ r c, Decidable (P r c)] {x y : (Sh m n).Idx → EReal} {φ ψ : ℤ → ℤ → ℝ}
    (hk : Is k fun r c => BitVec.ofBool (decide (P r c))) (hx : IsR x φ) (hy : IsR y ψ) :
    IsR (select k x y) fun r c => if P r c then φ r c else ψ r c :=
  (select_is hk hx hy).congr fun r c _ _ _ _ => (apply_ite (fun r : ℝ => (r : EReal)) _ _ _).symm

theorem fillR {b : BitVec 32} {v : ℝ} (h : Ideal.ofBits .f32 b = (v : EReal)) : IsR (fill (F := Ideal) (Sh m n) b) fun _ _ => v := fun _ => h

/-- The array `x` of words holds the whole numbers `Y`. -/
def IsW (x : IVec (Sh m n) 32) (Y : ℤ → ℤ → ℤ) : Prop := ∀ j : (Sh m n).Idx, (x j).toInt = Y ((j 0).val : ℤ) ((j 1).val : ℤ)

variable {x : IVec (Sh m n) 32} {Y : ℤ → ℤ → ℤ}

theorem IsW.ge (h : IsW x Y) (b : BitVec 32) (v : ℤ) (hb : b.toInt = v) :
    Is (cmpi .sge x (broadcast (Sh m n) b)) fun r c => BitVec.ofBool (decide (v ≤ Y r c)) := fun j => by
  show BitVec.ofBool (decide (b.toInt ≤ (x j).toInt)) = _
  simp only [h j, hb]

theorem IsW.lt (h : IsW x Y) (b : BitVec 32) (v : ℤ) (hb : b.toInt = v) :
    Is (cmpi .slt x (broadcast (Sh m n) b)) fun r c => BitVec.ofBool (decide (Y r c < v)) := fun j => by
  show BitVec.ofBool (decide ((x j).toInt < b.toInt)) = _
  simp only [h j, hb]

theorem IsW.eq (h : IsW x Y) (b : BitVec 32) (v : ℤ) (hb : b.toInt = v) :
    Is (cmpi .eq x (broadcast (Sh m n) b)) fun r c => BitVec.ofBool (decide (Y r c = v)) := fun j => by
  show BitVec.ofBool (x j == b) = _
  have : (x j == b) = decide (Y ((j 0).val : ℤ) ((j 1).val : ℤ) = v) := by
    rw [← h j, ← hb, Bool.eq_iff_iff]
    simp [BitVec.toInt_inj]
  rw [this]

theorem and_is {k l : IVec (Sh m n) 1} {P Q : ℤ → ℤ → Prop} [∀ r c, Decidable (P r c)] [∀ r c, Decidable (Q r c)]
    (hk : Is k fun r c => BitVec.ofBool (decide (P r c))) (hl : Is l fun r c => BitVec.ofBool (decide (Q r c))) :
    Is (andi k l) fun r c => BitVec.ofBool (decide (P r c ∧ Q r c)) := fun j => by
  show IntOp.andi (k j) (l j) = _
  rw [hk j, hl j, and_bits]

/-- Whether `(Y, X)` lies in the image, as the program tests it. -/
theorem inside_is {y x : IVec (Sh m n) 32} {Y X : ℤ → ℤ → ℤ} (hy : IsW y Y) (hx : IsW x X) :
    Is (andi (andi (andi (cmpi .sge y (broadcast (Sh m n) 0#32)) (cmpi .slt y (broadcast (Sh m n) 256#32)))
      (cmpi .sge x (broadcast (Sh m n) 0#32))) (cmpi .slt x (broadcast (Sh m n) 256#32)))
      fun r c => BitVec.ofBool (decide (Spec.In (Y r c) (X r c))) := fun j => by
  rw [and_is (and_is (and_is (hy.ge 0#32 0 rfl) (hy.lt 256#32 256 rfl)) (hx.ge 0#32 0 rfl)) (hx.lt 256#32 256 rfl) j]
  simp only [Spec.In, and_assoc]

/-- The first image row of grid point `i`'s strip. -/
abbrev T (i : grid0.Coords) : ℤ := 64 * ((i 0).val : ℤ)

theorem row80 : ∀ (t : Fin 4) (r : Fin 80), (IntOp.addi (BitVec.ofNat 32 r.val) (Scalar.subi (Scalar.muli (BitVec.ofNat 32 t.val) 64#32) 8#32)).toInt = 64 * (t.val : ℤ) - 8 + (r.val : ℤ) := by
  decide +kernel

theorem row70 : ∀ (t : Fin 4) (r : Fin 70), (IntOp.addi (BitVec.ofNat 32 r.val) (Scalar.subi (Scalar.muli (BitVec.ofNat 32 t.val) 64#32) 3#32)).toInt = 64 * (t.val : ℤ) - 3 + (r.val : ℤ) := by
  decide +kernel

theorem row64 : ∀ (t : Fin 4) (r : Fin 64), (IntOp.addi (BitVec.ofNat 32 r.val) (Scalar.muli (BitVec.ofNat 32 t.val) 64#32)).toInt = 64 * (t.val : ℤ) + (r.val : ℤ) := by
  decide +kernel

theorem col272 : ∀ c : Fin 272, (IntOp.subi (BitVec.ofNat 32 c.val) 8#32).toInt = (c.val : ℤ) - 8 := by
  decide +kernel

theorem iota0 (m n : ℕ) (h : (Sh m n).Iotas .tc 32 [0]) (j : (Sh m n).Idx) : iota .tc (Sh m n) 32 [0] h j = BitVec.ofNat 32 (j 0).val :=
  congrArg (BitVec.ofNat 32) (by simp)

theorem iota1 (m n : ℕ) (h : (Sh m n).Iotas .tc 32 [1]) (j : (Sh m n).Idx) : iota .tc (Sh m n) 32 [1] h j = BitVec.ofNat 32 (j 1).val :=
  congrArg (BitVec.ofNat 32) (by simp)

variable (i : grid0.Coords)

theorem inside_mask : Is (m := 80) (n := 272) (inside i) fun r c => BitVec.ofBool (decide (Spec.In (T i - 8 + r) (c - 8))) :=
  inside_is (fun j => (congrArg (fun w => (IntOp.addi w _).toInt) (iota0 80 272 _ j)).trans (row80 (i 0) (j 0)))
    (fun j => (congrArg (fun w => (IntOp.subi w _).toInt) (iota1 80 272 _ j)).trans (col272 (j 1)))

theorem rowsQ_is : IsW (m := 70) (n := 272) (rowsQ i) fun r _ => T i - 3 + r := fun j =>
  (congrArg (fun w => (IntOp.addi w _).toInt) (iota0 70 272 _ j)).trans (row70 (i 0) (j 0))

theorem colsQ_is : IsW (m := 70) (n := 272) colsQ fun _ c => c - 8 := fun j =>
  (congrArg (fun w => (IntOp.subi w _).toInt) (iota1 70 272 _ j)).trans (col272 (j 1))

theorem insideQ_mask : Is (m := 70) (n := 272) (insideQ i) fun r c => BitVec.ofBool (decide (Spec.In (T i - 3 + r) (c - 8))) :=
  inside_is (rowsQ_is i) colsQ_is

theorem rowsO_is : IsW (m := 64) (n := 256) (rowsO i) fun r _ => T i + r := fun j =>
  (congrArg (fun w => (IntOp.addi w _).toInt) (iota0 64 256 _ j)).trans (row64 (i 0) (j 0))

end Cert.Stage

end
-- ==== Proof.Planes.lean ====
/- The quantised planes, their gradients and the patch sums of one grid point. -/
module

public import proofs.«01_k».proof.Proof.Stage

@[expose] public section

set_option maxRecDepth 16384

noncomputable section

namespace Cert.Stage

open Cert.KernelIdeal Cert.KernelIdeal.Gen Idealize.ShloMosaic Cert.Tab Cert.Flow

section
variable {m n : ℕ} {x y z : FVec Ideal (Sh m n) .f32} {φ ψ χ : ℤ → ℤ → EReal}

theorem blend_is (hx : Is x φ) (hy : Is y ψ) (hz : Is z χ) :
    Is (mulf (addf (addf x (mulf (fill (Sh m n) 0x40000000#32) y)) z) (fill (Sh m n) 0x3E800000#32)) fun r c => Spec.blend (φ r c) (ψ r c) (χ r c) := fun j => by
  show Spec.blend (x j) (y j) (z j) = _
  rw [hx j, hy j, hz j]

theorem byte_is (hx : Is x φ) : Is (minimumf (fill (Sh m n) 0x437F0000#32) (maximumf (fill (Sh m n) 0x00000000#32)
    (roundeven (mulf x (fill (Sh m n) 0x437F0000#32))))) fun r c => Spec.byte (φ r c) := fun j => by
  show Spec.byte (x j) = _
  rw [hx j]

end

variable (i : grid0.Coords)

theorem quant_is {x : FVec Ideal S80x272 .f32} {φ : ℤ → ℤ → EReal} (h : Is (m := 80) (n := 272) x φ) :
    Is (m := 78) (n := 270) (quant x) fun r c => Spec.byte (Spec.smooth φ (r + 1) (c + 1)) := by
  have hv := blend_is (h.slice (m' := 78) (n' := 272) (a := 0) (b := 0) (by decide)) (h.slice (m' := 78) (n' := 272) (a := 1) (b := 0) (by decide))
    (h.slice (m' := 78) (n' := 272) (a := 2) (b := 0) (by decide))
  have hs := blend_is (hv.slice (m' := 78) (n' := 270) (a := 0) (b := 0) (by decide)) (hv.slice (m' := 78) (n' := 270) (a := 0) (b := 1) (by decide))
    (hv.slice (m' := 78) (n' := 270) (a := 0) (b := 2) (by decide))
  refine (byte_is hs).congr fun r c _ _ _ _ => ?_
  simp only [Spec.smooth]
  push_cast
  ring_nf

/-- The quantised band of image `f` at grid point `i`: zero outside the image; its first and last rows are zero too. -/
abbrev Band (p : FVec Ideal S80x272 .f32) (z : ℤ → ℤ → ℝ) : Prop :=
  IsR (m := 80) (n := 272) p fun r c => if 1 ≤ r ∧ r < 79 then z (T i - 8 + r) (c - 8) else 0

theorem plane_is {x : FVec Ideal S80x272 .f32} {f : Spec.Img} (h : Is (m := 80) (n := 272) x fun r c => Spec.pix f (T i - 8 + r) (c - 8)) :
    Band i (plane i x) (Spec.Z f) := by
  have hx : Is (m := 80) (n := 272) (shapeCast S80x272 x shapeCasts_S80x272_S80x272) fun r c => Spec.pix f (T i - 8 + r) (c - 8) := by
    rw [shapeCast_self]
    exact h
  have h0 : ∀ m n : ℕ, Is (fill (F := Ideal) (Sh m n) 0x00000000#32) fun _ _ => ((0 : ℝ) : EReal) := fun m n j => Spec.w_zero
  have hr := Is.rows₃ (m := 80) (h0 1 270) (quant_is hx) (h0 1 270) concatenates_S1x270_S78x270_S1x270_S80x270_d0
  have hc := Is.cols₃ (n := 272) (h0 80 1) hr (h0 80 1) concatenates_S80x1_S80x270_S80x1_S80x272_d1
  refine (select_is (inside_mask i) hc (h0 80 272)).congr fun r c h1 h2 h3 h4 => ?_
  have e : Spec.smooth (fun r c => Spec.pix f (T i - 8 + r) (c - 8)) (r - ((1 : ℕ) : ℤ) + 1) (c - ((1 : ℕ) : ℤ) + 1) = Spec.smooth (Spec.pix f) (T i - 8 + r) (c - 8) := by
    simp only [Spec.smooth]
    push_cast
    ring_nf
  rw [e, Spec.byte_real]
  unfold Spec.Z
  push_cast at *
  split_ifs <;> first | rfl | omega

theorem gradY_is {p : FVec Ideal S80x272 .f32} {z : ℤ → ℤ → ℝ} (h : Band i p z) :
    IsR (m := 70) (n := 260) (gradY i p) fun r c => Spec.GY z (T i - 3 + r) (c - 2) := by
  have s4 := Is.slice (m := 80) (n := 272) h (m' := 70) (n' := 272) (a := 4) (b := 0) (by decide)
  have s5 := Is.slice (m := 80) (n := 272) h (m' := 70) (n' := 272) (a := 5) (b := 0) (by decide)
  have s6 := Is.slice (m := 80) (n := 272) h (m' := 70) (n' := 272) (a := 6) (b := 0) (by decide)
  have hd := selectR (insideQ_mask i) (IsR.sub (selectR ((rowsQ_is i).eq 255#32 255 rfl) s5 s6) (selectR ((rowsQ_is i).eq 0#32 0 rfl) s5 s4)) (fillR Spec.w_zero)
  refine IsR.congr (Is.slice hd (m' := 70) (n' := 260) (a := 0) (b := 6) (by decide)) fun r c h1 h2 h3 h4 => ?_
  unfold Spec.GY
  push_cast at *
  have a1 : c - 2 = 6 + c - 8 := by ring
  rw [a1]
  by_cases hin : Spec.In (T i - 3 + r) (6 + c - 8)
  · rw [if_pos (by simpa using hin), if_pos hin]
    congr 1
    · split_ifs <;> first | omega | (congr 1 <;> omega)
    · split_ifs <;> first | omega | (congr 1 <;> omega)
  · rw [if_neg (by simpa using hin), if_neg hin]

theorem gradX_is {p : FVec Ideal S80x272 .f32} {z : ℤ → ℤ → ℝ} (h : Band i p z) :
    IsR (m := 70) (n := 260) (gradX i p) fun r c => Spec.GX z (T i - 3 + r) (c - 2) := by
  have s5 := Is.slice (m := 80) (n := 272) h (m' := 70) (n' := 272) (a := 5) (b := 0) (by decide)
  have hr := Is.cols (n := 272) (Is.slice s5 (m' := 70) (n' := 271) (a := 0) (b := 1) (by decide)) (Is.slice s5 (m' := 70) (n' := 1) (a := 0) (b := 271) (by decide)) concatenates_S70x271_S70x1_S70x272_d1
  have hl := Is.cols (n := 272) (Is.slice s5 (m' := 70) (n' := 1) (a := 0) (b := 0) (by decide)) (Is.slice s5 (m' := 70) (n' := 271) (a := 0) (b := 0) (by decide)) concatenates_S70x1_S70x271_S70x272_d1
  have hd := selectR (insideQ_mask i) (IsR.sub (selectR (colsQ_is.eq 255#32 255 rfl) s5 (Is.congr hr fun r c _ _ _ _ => (apply_ite (fun r : ℝ => (r : EReal)) _ _ _).symm))
    (selectR (colsQ_is.eq 0#32 0 rfl) s5 (Is.congr hl fun r c _ _ _ _ => (apply_ite (fun r : ℝ => (r : EReal)) _ _ _).symm))) (fillR Spec.w_zero)
  refine IsR.congr (Is.slice hd (m' := 70) (n' := 260) (a := 0) (b := 6) (by decide)) fun r c h1 h2 h3 h4 => ?_
  unfold Spec.GX
  push_cast at *
  have a1 : c - 2 = 6 + c - 8 := by ring
  rw [a1]
  by_cases hin : Spec.In (T i - 3 + r) (6 + c - 8)
  · rw [if_pos (by simpa using hin), if_pos hin]
    congr 1
    · split_ifs <;> first | omega | (congr 1 <;> omega)
    · split_ifs <;> first | omega | (congr 1 <;> omega)
  · rw [if_neg (by simpa using hin), if_neg hin]

end Cert.Stage

end
-- ==== Proof.Sums.lean ====
/- The patch sums of one grid point: the costs and the border sums, by products with the two constant tables. -/
module

public import proofs.«01_k».proof.Proof.Planes

@[expose] public section

set_option maxRecDepth 16384

noncomputable section

namespace Cert.Stage

open Cert.KernelIdeal Cert.KernelIdeal.Gen Idealize.ShloMosaic Cert.Tab Cert.Flow

variable (i : grid0.Coords)

/-- A working array holds `φ` at its pixels. -/
abbrev Work (x : FVec Ideal S70x260 .f32) (φ : ℤ → ℤ → ℝ) : Prop := IsR (m := 70) (n := 260) x fun r c => φ (T i - 3 + r) (c - 2)

/-- A strip, with one row more above and below, holds `φ` at its pixels. -/
abbrev Strip (x : FVec Ideal S66x256 .f32) (φ : ℤ → ℤ → ℝ) : Prop := IsR (m := 66) (n := 256) x fun r c => φ (T i - 1 + r) c

/-- The first table: ones at the five rows from the column's own on. -/
def TableU (u : FVec Ideal S260x256 .bf16) : Prop := ∀ (k : Fin 260) (c : Fin 256),
  u (ValueIdx.ix2 k c) = ((if c.val ≤ k.val ∧ k.val < c.val + 5 then 1 else 0 : ℝ) : EReal)

/-- The second table: the first, and beside it ones at the middle three of the five. -/
def TableW (w : FVec Ideal S260x512 .f32) : Prop := ∀ (k : Fin 260) (c : Fin 512),
  w (ValueIdx.ix2 k c) = ((if c.val % 256 + c.val / 256 ≤ k.val ∧ k.val < c.val % 256 + c.val / 256 + (5 - 2 * (c.val / 256)) then 1 else 0 : ℝ) : EReal)

theorem rows5_is {x : FVec Ideal S70x256 .f32} {φ : ℤ → ℤ → ℝ} (h : IsR (m := 70) (n := 256) x φ) :
    IsR (m := 66) (n := 256) (rows5 x) fun r c => ∑ k ∈ Finset.range 5, φ (r + (k : ℤ)) c := by
  have s := fun a hs => Is.slice (m := 70) (n := 256) h (m' := 66) (n' := 256) (a := a) (b := 0) hs
  refine IsR.congr (IsR.add (IsR.add (IsR.add (IsR.add (s 0 (by decide)) (s 1 (by decide))) (s 2 (by decide))) (s 3 (by decide))) (s 4 (by decide))) fun r c _ _ _ _ => ?_
  simp only [Finset.sum_range_succ, Finset.sum_range_zero]
  push_cast
  simp only [zero_add, add_zero, add_comm r]

theorem rows3_is {x : FVec Ideal S70x256 .f32} {φ : ℤ → ℤ → ℝ} (h : IsR (m := 70) (n := 256) x φ) :
    IsR (m := 66) (n := 256) (rows3 x) fun r c => ∑ k ∈ Finset.range 3, φ (r + 1 + (k : ℤ)) c := by
  have s := fun a hs => Is.slice (m := 70) (n := 256) h (m' := 66) (n' := 256) (a := a) (b := 0) hs
  refine IsR.congr (IsR.add (IsR.add (s 1 (by decide)) (s 2 (by decide))) (s 3 (by decide))) fun r c _ _ _ _ => ?_
  simp only [Finset.sum_range_succ, Finset.sum_range_zero]
  push_cast
  ring_nf

theorem zero_acc (s : Shape) (j : s.Idx) : constant (F := Ideal) s .f32 0x00000000#32 j = 0 := Ideal.ofBits_zero_f32

theorem block_is {p : FVec Ideal S80x272 .f32} {z : ℤ → ℤ → ℝ} (h : Band i p z) (d : Fin 7 × Fin 7) : Work i (blockAt p d) (Spec.shift z d) := by
  refine IsR.congr (Is.slice (m := 80) (n := 272) h (m' := 70) (n' := 260) (slices_at d.1 d.2)) fun r c h1 h2 h3 h4 => ?_
  have := d.1.isLt
  push_cast at *
  rw [if_pos (by omega), Spec.shift]
  congr 1 <;> ring

theorem centre_is {p : FVec Ideal S80x272 .f32} {z : ℤ → ℤ → ℝ} (h : Band i p z) :
    Work i (extractStridedSlice S70x260 ![5, 6] p) z := by
  refine IsR.congr (Is.slice (m := 80) (n := 272) h (m' := 70) (n' := 260) (a := 5) (b := 6) (by decide)) fun r c h1 h2 h3 h4 => ?_
  push_cast at *
  rw [if_pos (by omega)]
  congr 1 <;> ring

theorem sum5_is {u : FVec Ideal S260x256 .bf16} (hu : TableU u) {x : FVec Ideal S70x260 .bf16} {φ : ℤ → ℤ → ℝ}
    (h : IsR (m := 70) (n := 260) x fun r c => φ (T i - 3 + r) (c - 2)) :
    Strip i (rows5 (matmul dot_S70x260_S260x256_S70x256_1_0_0_1_n_n none x u (constant S70x256 .f32 0x00000000#32))) (Spec.sum5 φ) := by
  have hm := IsR.band (N := 256) h (fun c => c) (fun _ => 5) hu (fun c hc => by omega) none (constant S70x256 .f32 0x00000000#32) (zero_acc S70x256)
  refine IsR.congr (rows5_is hm) fun r c h1 h2 h3 h4 => ?_
  lift c to ℕ using h3
  refine Finset.sum_congr rfl fun a _ => Finset.sum_congr rfl fun b _ => ?_
  simp only [Int.toNat_natCast]
  congr 1 <;> ring

theorem cost_is {u : FVec Ideal S260x256 .bf16} (hu : TableU u) {p q : FVec Ideal S80x272 .f32} {f g : ℤ → ℤ → ℝ} (hp : Band i p f) (hq : Band i q g)
    (d : Fin 7 × Fin 7) : Strip i (costAt u p q d) (Spec.cost f g d) :=
  sum5_is i hu (φ := fun y x => |Spec.shift g d y x - f y x|) (IsR.abs (IsR.sub (block_is i hq d) (centre_is i hp)))

theorem bands_is {w : FVec Ideal S260x512 .f32} (hw : TableW w) {x : FVec Ideal S70x260 .f32} {φ : ℤ → ℤ → ℝ} (h : IsR (m := 70) (n := 260) x φ) :
    IsR (m := 70) (n := 512) (bands w x) fun r c => ∑ k ∈ Finset.range (5 - 2 * (c.toNat / 256)), φ r (((c.toNat % 256 + c.toNat / 256 : ℕ) : ℤ) + (k : ℤ)) := by
  have hh : IsR (m := 70) (n := 260) (high x) _ := IsR.floor (IsR.mul h (fillR Spec.w_over256))
  have m₁ := IsR.band (N := 512) hh (fun c => c % 256 + c / 256) (fun c => 5 - 2 * (c / 256)) hw (fun c hc => by omega) none (constant S70x512 .f32 0x00000000#32) (zero_acc S70x512)
  have m₂ := IsR.band (N := 512) (IsR.sub h (IsR.mul hh (fillR Spec.w_256))) (fun c => c % 256 + c / 256) (fun c => 5 - 2 * (c / 256)) hw (fun c hc => by omega) none (constant S70x512 .f32 0x00000000#32) (zero_acc S70x512)
  refine IsR.congr (IsR.add (IsR.mul m₁ (fillR Spec.w_256)) m₂) fun r c h1 h2 h3 h4 => ?_
  rw [Finset.sum_mul, ← Finset.sum_add_distrib]
  exact Finset.sum_congr rfl fun k _ => by ring

theorem border_is {w : FVec Ideal S260x512 .f32} (hw : TableW w) {x : FVec Ideal S70x260 .f32} {φ : ℤ → ℤ → ℝ} (h : Work i x φ) :
    Strip i (border w x) (Spec.brd φ) := by
  have hb := bands_is hw h
  have b₁ := rows5_is (Is.slice hb (m' := 70) (n' := 256) (a := 0) (b := 0) (by decide))
  have b₂ := rows3_is (Is.slice hb (m' := 70) (n' := 256) (a := 0) (b := 256) (by decide))
  refine IsR.congr (IsR.sub b₁ b₂) fun r c h1 h2 h3 h4 => ?_
  lift c to ℕ using h3
  have hc : c < 256 := by exact_mod_cast h4
  have e1 : (((0 : ℕ) : ℤ) + (c : ℤ)).toNat = c := by simp
  have e2 : (((256 : ℕ) : ℤ) + (c : ℤ)).toNat = 256 + c := by omega
  simp only [e1, e2]
  have e3 : c / 256 = 0 := by omega
  have e4 : c % 256 = c := by omega
  have e5 : (256 + c) / 256 = 1 := by omega
  have e6 : (256 + c) % 256 = c := by omega
  rw [e3, e4, e5, e6]
  refine congrArg₂ (fun a b : ℝ => a - b) (Finset.sum_congr rfl fun a _ => Finset.sum_congr rfl fun b _ => ?_)
    (Finset.sum_congr rfl fun a _ => Finset.sum_congr rfl fun b _ => ?_)
  · push_cast
    congr 1 <;> ring
  · push_cast
    congr 1 <;> ring

theorem cross_is {w : FVec Ideal S260x512 .f32} (hw : TableW w) {q : FVec Ideal S80x272 .f32} {g : ℤ → ℤ → ℝ} (hq : Band i q g)
    {e : FVec Ideal S70x260 .f32} {ε : ℤ → ℤ → ℝ} (he : Work i e ε) (d : Fin 7 × Fin 7) :
    Strip i (crossAt w q e d) (Spec.brd fun y x => Spec.shift g d y x * ε y x) :=
  border_is i hw (φ := fun y x => Spec.shift g d y x * ε y x) (IsR.mul (block_is i hq d) he)

end Cert.Stage

end
-- ==== Proof.KernelVal.lean ====
/- The search, the flow and the median of one grid point, on whole-number pixel coordinates. -/
module

public import proofs.«01_k».proof.Proof.Sums

@[expose] public section

set_option maxRecDepth 16384

noncomputable section

namespace Cert.Stage

open Cert.KernelIdeal Cert.KernelIdeal.Gen Idealize.ShloMosaic Cert.Tab Cert.Flow

variable (i : grid0.Coords) {u : FVec Ideal S260x256 .bf16} {w : FVec Ideal S260x512 .f32} {p q : FVec Ideal S80x272 .f32}
  {dx dy : FVec Ideal S70x260 .f32} {f g : ℤ → ℤ → ℝ}

/-- A pixel of the strip. -/
abbrev py (j : (Sh 66 256).Idx) : ℤ := T i - 1 + ((j 0).val : ℤ)
/-- Its column. -/
abbrev px (j : (Sh 66 256).Idx) : ℤ := ((j 1).val : ℤ)

/-- The sum the search carries beside the cost. -/
def along (f g : ℤ → ℤ → ℝ) (d : Fin 7 × Fin 7) (e : ℤ → ℤ → ℝ) (y x : ℤ) : ℝ := Spec.brd (fun y x => Spec.shift g d y x * e y x) y x

/-- At element `j` the search's state is the one at displacement `d`. -/
def At (f g : ℤ → ℤ → ℝ) (j : (Sh 66 256).Idx) (s : Best Ideal) (d : Fin 7 × Fin 7) : Prop :=
  s.cost j = ((Spec.cost f g d (py i j) (px j) : ℝ) : EReal) ∧ s.idx j = code d ∧
    s.px j = ((along f g d (Spec.GX f) (py i j) (px j) : ℝ) : EReal) ∧ s.py j = ((along f g d (Spec.GY f) (py i j) (px j) : ℝ) : EReal)

theorem first_at (hu : TableU u) (hw : TableW w) (hp : Band i p f) (hq : Band i q g) (hx : Work i dx (Spec.GX f)) (hy : Work i dy (Spec.GY f))
    (j : (Sh 66 256).Idx) (d : Fin 7 × Fin 7) : At i f g j (first u w p q dx dy d) d :=
  ⟨cost_is i hu hp hq d j, rfl, cross_is i hw hq hx d j, cross_is i hw hq hy d j⟩

theorem step_at (hu : TableU u) (hw : TableW w) (hp : Band i p f) (hq : Band i q g) (hx : Work i dx (Spec.GX f)) (hy : Work i dy (Spec.GY f))
    (j : (Sh 66 256).Idx) (s : Best Ideal) (e d : Fin 7 × Fin 7) (h : At i f g j s e) :
    At i f g j (step u w p q dx dy s d) (if Spec.cost f g d (py i j) (px j) < Spec.cost f g e (py i j) (px j) then d else e) := by
  obtain ⟨a1, a2, a3, a4⟩ := first_at i hu hw hp hq hx hy j d
  have hb : cmpf .olt (costAt u p q d) s.cost j = BitVec.ofBool (decide (Spec.cost f g d (py i j) (px j) < Spec.cost f g e (py i j) (px j))) := by
    show BitVec.ofBool (decide (costAt u p q d j < s.cost j)) = _
    rw [h.1, show costAt u p q d j = _ from a1]
    simp only [EReal.coe_lt_coe_iff]
  have hs : ∀ {α : Type} (a b : (Sh 66 256).Idx → α), select (cmpf .olt (costAt u p q d) s.cost) a b j
      = if Spec.cost f g d (py i j) (px j) < Spec.cost f g e (py i j) (px j) then a j else b j := fun a b => by
    show Scalar.select (cmpf .olt (costAt u p q d) s.cost j) (a j) (b j) = _
    rw [hb, select_if]
  by_cases hc : Spec.cost f g d (py i j) (px j) < Spec.cost f g e (py i j) (px j)
  · rw [if_pos hc]
    exact ⟨((hs _ _).trans (if_pos hc)).trans a1, (hs _ _).trans (if_pos hc), ((hs _ _).trans (if_pos hc)).trans a3, ((hs _ _).trans (if_pos hc)).trans a4⟩
  · rw [if_neg hc]
    exact ⟨((hs _ _).trans (if_neg hc)).trans h.1, ((hs _ _).trans (if_neg hc)).trans h.2.1, ((hs _ _).trans (if_neg hc)).trans h.2.2.1,
      ((hs _ _).trans (if_neg hc)).trans h.2.2.2⟩

theorem search_at (hu : TableU u) (hw : TableW w) (hp : Band i p f) (hq : Band i q g) (hx : Work i dx (Spec.GX f)) (hy : Work i dy (Spec.GY f))
    (j : (Sh 66 256).Idx) : At i f g j (search u w p q dx dy) (Spec.best f g (py i j) (px j)) := by
  have h : ∀ (l : List (Fin 7 × Fin 7)) (s : Best Ideal) (e : Fin 7 × Fin 7), At i f g j s e →
      At i f g j (l.foldl (step u w p q dx dy) s) (l.foldl (fun e d => if Spec.cost f g d (py i j) (px j) < Spec.cost f g e (py i j) (px j) then d else e) e) := by
    intro l
    induction l with
    | nil => exact fun s e h => h
    | cons d l ih => exact fun s e h => ih _ _ (step_at i hu hw hp hq hx hy j s e d h)
  exact h spiral _ _ (first_at i hu hw hp hq hx hy j (3, 3))

/-! ## The flow -/

theorem row_of_code : ∀ d : Fin 7 × Fin 7, (IntOp.subi 3#32 (IntOp.shrui .vector (IntOp.muli (code d) 9363#32) 16#32)).toInt = 3 - (d.1.val : ℤ) := by
  decide +kernel

theorem col_of_code : ∀ d : Fin 7 × Fin 7,
    (IntOp.subi 3#32 (IntOp.subi (code d) (IntOp.muli (IntOp.shrui .vector (IntOp.muli (code d) 9363#32) 16#32) 7#32))).toInt = 3 - (d.2.val : ℤ) := by
  decide +kernel

theorem gsc_at (j : S66x256.Idx) : gsc (F := Ideal) j = ((1 / 260100 : ℝ) : EReal) := IdealRules.named_const.ideal_named_scalar _ _ _ _ rfl
theorem psc_at (j : S66x256.Idx) : psc (F := Ideal) j = ((1 / 130050 : ℝ) : EReal) := IdealRules.named_const.ideal_named_scalar _ _ _ _ rfl

theorem gram_is (hw : TableW w) {a b : FVec Ideal S70x260 .f32} {α β : ℤ → ℤ → ℝ} (ha : Work i a α) (hb : Work i b β) (j : (Sh 66 256).Idx) :
    mulf (border w (mulf a b)) gsc j = Spec.gram (1 / 260100) α β (py i j) (px j) := by
  show border w (mulf a b) j * gsc j = _
  rw [gsc_at, border_is i hw (φ := fun y x => α y x * β y x) (IsR.mul ha hb) j, ← EReal.coe_mul]
  rfl

theorem crossed_is (hw : TableW w) {a b : FVec Ideal S70x260 .f32} {ε : ℤ → ℤ → ℝ} (ha : Work i a f) (hb : Work i b ε) (d : Fin 7 × Fin 7) (j : (Sh 66 256).Idx)
    (s : FVec Ideal S66x256 .f32) (hs : s j = ((along f g d ε (py i j) (px j) : ℝ) : EReal)) :
    mulf (subf s (border w (mulf a b))) psc j = Spec.cross f g d ε (py i j) (px j) := by
  show (s j - border w (mulf a b) j) * psc j = _
  rw [psc_at, hs, border_is i hw (φ := fun y x => f y x * ε y x) (IsR.mul ha hb) j, ← EReal.coe_sub, ← EReal.coe_mul]
  rfl

theorem flow_is (hw : TableW w) (hp : Band i p f) (hx : Work i dx (Spec.GX f)) (hy : Work i dy (Spec.GY f))
    (s : Best Ideal) (j : (Sh 66 256).Idx) (hs : At i f g j s (Spec.best f g (py i j) (px j))) :
    (flow w p dx dy s).1 j = Spec.flowY f g (py i j) (px j) ∧ (flow w p dx dy s).2 j = Spec.flowX f g (py i j) (px j) := by
  obtain ⟨-, h2, h3, h4⟩ := hs
  have e1 := gram_is i hw hx hx j
  have e2 := gram_is i hw hx hy j
  have e3 := gram_is i hw hy hy j
  have e4 := crossed_is i hw (centre_is i hp) hx _ j s.px h3
  have e5 := crossed_is i hw (centre_is i hp) hy _ j s.py h4
  constructor
  · show (((IntOp.subi 3#32 (IntOp.shrui .vector (IntOp.muli (s.idx j) 9363#32) 16#32)).toInt : ℝ) : EReal)
      + (Spec.solve (mulf (border w (mulf dx dx)) gsc j) (mulf (border w (mulf dx dy)) gsc j) (mulf (border w (mulf dy dy)) gsc j)
        (mulf (subf s.px (border w (mulf (extractStridedSlice S70x260 ![5, 6] p) dx))) psc j)
        (mulf (subf s.py (border w (mulf (extractStridedSlice S70x260 ![5, 6] p) dy))) psc j)).1 = _
    rw [h2, row_of_code, e1, e2, e3, e4, e5]
    push_cast
    rfl
  · show (((IntOp.subi 3#32 (IntOp.subi (s.idx j) (IntOp.muli (IntOp.shrui .vector (IntOp.muli (s.idx j) 9363#32) 16#32) 7#32))).toInt : ℝ) : EReal)
      + (Spec.solve (mulf (border w (mulf dx dx)) gsc j) (mulf (border w (mulf dx dy)) gsc j) (mulf (border w (mulf dy dy)) gsc j)
        (mulf (subf s.px (border w (mulf (extractStridedSlice S70x260 ![5, 6] p) dx))) psc j)
        (mulf (subf s.py (border w (mulf (extractStridedSlice S70x260 ![5, 6] p) dy))) psc j)).2 = _
    rw [h2, col_of_code, e1, e2, e3, e4, e5]
    push_cast
    rfl

/-- The flow of grid point `i` before the median. -/
theorem flowOf_is (hu : TableU u) (hw : TableW w) {xf xg : FVec Ideal S80x272 .f32} {F G : Spec.Img}
    (hf : Is (m := 80) (n := 272) xf fun r c => Spec.pix F (T i - 8 + r) (c - 8)) (hg : Is (m := 80) (n := 272) xg fun r c => Spec.pix G (T i - 8 + r) (c - 8)) :
    Is (m := 66) (n := 256) (flowOf i xf xg u w).1 (fun r c => Spec.flowY (Spec.Z F) (Spec.Z G) (T i - 1 + r) c) ∧
    Is (m := 66) (n := 256) (flowOf i xf xg u w).2 (fun r c => Spec.flowX (Spec.Z F) (Spec.Z G) (T i - 1 + r) c) := by
  have hp := plane_is i hf
  have hq := plane_is i hg
  have h := fun j => flow_is i hw hp (gradX_is i hp) (gradY_is i hp) _ j (search_at i hu hw hp hq (gradX_is i hp) (gradY_is i hp) j)
  exact ⟨fun j => (h j).1, fun j => (h j).2⟩

/-! ## The median -/

variable {t : FVec Ideal S64x256 .f32} {φ : ℤ → ℤ → EReal}

/-- A coordinate one before, at, or one after `c`, kept in the image. -/
abbrev near (c : ℤ) (k : ℕ) : ℤ := max 0 (min (c - 1 + (k : ℤ)) 255)

theorem leftOf_is (h : Is (m := 64) (n := 256) t φ) : Is (m := 64) (n := 256) (leftOf t) fun r c => φ r (near c 0) := by
  refine (Is.cols (n := 256) (h.slice (m' := 64) (n' := 1) (a := 0) (b := 0) (by decide)) (h.slice (m' := 64) (n' := 255) (a := 0) (b := 0) (by decide))
    concatenates_S64x1_S64x255_S64x256_d1).congr fun r c h1 h2 h3 h4 => ?_
  push_cast at *
  unfold near
  split_ifs <;> (congr 1 <;> omega)

theorem rightOf_is (h : Is (m := 64) (n := 256) t φ) : Is (m := 64) (n := 256) (rightOf t) fun r c => φ r (near c 2) := by
  refine (Is.cols (n := 256) (h.slice (m' := 64) (n' := 255) (a := 0) (b := 1) (by decide)) (h.slice (m' := 64) (n' := 1) (a := 0) (b := 255) (by decide))
    concatenates_S64x255_S64x1_S64x256_d1).congr fun r c h1 h2 h3 h4 => ?_
  push_cast at *
  unfold near
  split_ifs <;> (congr 1 <;> omega)

theorem same_is (h : Is (m := 64) (n := 256) t φ) : Is (m := 64) (n := 256) t fun r c => φ r (near c 1) :=
  h.congr fun r c h1 h2 h3 h4 => by
    push_cast at *
    unfold near
    congr 1
    omega

theorem low3_is (h : Is (m := 64) (n := 256) t φ) : Is (m := 64) (n := 256) (low3 t) fun r c => lo3 (φ r (near c 0)) (φ r (near c 1)) (φ r (near c 2)) := fun j => by
  show lo3 (leftOf t j) (t j) (rightOf t j) = _
  rw [leftOf_is h j, same_is h j, rightOf_is h j]

theorem mid3_is (h : Is (m := 64) (n := 256) t φ) : Is (m := 64) (n := 256) (mid3 t) fun r c => mi3 (φ r (near c 0)) (φ r (near c 1)) (φ r (near c 2)) := fun j => by
  show mi3 (leftOf t j) (t j) (rightOf t j) = _
  rw [leftOf_is h j, same_is h j, rightOf_is h j]

theorem top3_is (h : Is (m := 64) (n := 256) t φ) : Is (m := 64) (n := 256) (top3 t) fun r c => hi3 (φ r (near c 0)) (φ r (near c 1)) (φ r (near c 2)) := fun j => by
  show hi3 (leftOf t j) (t j) (rightOf t j) = _
  rw [leftOf_is h j, same_is h j, rightOf_is h j]

theorem med_at (a b c : FVec Ideal S64x256 .f32) (j : S64x256.Idx) :
    med3 (maximumf (maximumf (low3 a) (low3 b)) (low3 c)) (med3 (mid3 a) (mid3 b) (mid3 c)) (minimumf (minimumf (top3 a) (top3 b)) (top3 c)) j
      = mi3 (max (max (low3 a j) (low3 b j)) (low3 c j)) (mi3 (mid3 a j) (mid3 b j) (mid3 c j)) (min (min (top3 a j) (top3 b j)) (top3 c j)) := rfl

theorem median_is {ch : FVec Ideal S66x256 .f32} {τ : ℤ → ℤ → EReal} (h : Is (m := 66) (n := 256) ch fun r c => τ (T i - 1 + r) c) :
    Is (m := 64) (n := 256) (median i ch) fun r c => Spec.med τ (T i + r) c := by
  have hi4 : (i 0).val < 4 := (i 0).isLt
  have hi : T i ≤ 192 := by unfold T; omega
  have hi' : 0 ≤ T i := by unfold T; omega
  have s0 := h.slice (m' := 64) (n' := 256) (a := 0) (b := 0) (by decide)
  have s1 := h.slice (m' := 64) (n' := 256) (a := 1) (b := 0) (by decide)
  have s2 := h.slice (m' := 64) (n' := 256) (a := 2) (b := 0) (by decide)
  have up := (select_is ((rowsO_is i).eq 0#32 0 rfl) s1 s0).congr (ψ := fun r c => τ (near (T i + r) 0) c) fun r c h1 h2 h3 h4 => by
    push_cast at *
    unfold near
    split_ifs <;> (congr 1 <;> omega)
  have cur := s1.congr (ψ := fun r c => τ (near (T i + r) 1) c) fun r c h1 h2 h3 h4 => by
    push_cast at *
    unfold near
    congr 1 <;> omega
  have dn := (select_is ((rowsO_is i).eq 255#32 255 rfl) s1 s2).congr (ψ := fun r c => τ (near (T i + r) 2) c) fun r c h1 h2 h3 h4 => by
    push_cast at *
    unfold near
    split_ifs <;> (congr 1 <;> omega)
  intro j
  have a1 := low3_is up j
  have a2 := low3_is cur j
  have a3 := low3_is dn j
  have b1 := mid3_is up j
  have b2 := mid3_is cur j
  have b3 := mid3_is dn j
  have c1 := top3_is up j
  have c2 := top3_is cur j
  have c3 := top3_is dn j
  refine (med_at _ _ _ j).trans ?_
  rw [a1, a2, a3, b1, b2, b3, c1, c2, c3]
  rfl

end Cert.Stage

end
-- ==== Proof.BodyEq.lean ====
/- What the body's run found for its two stores, as the loop of Body.lean. -/
module

public import proofs.«01_k».proof.Proof.Gen.KernelIdeal.Value
public import proofs.«01_k».proof.Proof.Body

@[expose] public section

set_option maxRecDepth 16384

noncomputable section

namespace Cert.Flow

open Cert.KernelIdeal Cert.KernelIdeal.Gen Idealize.ShloMosaic

variable {F : FTy → Type} [FloatOps F] [Named F]

variable (c : Dev nD) (i : grid0.Coords)
  (arg1 : Memref sig .tc .vmem S272x272 .f32) (harg1 : arg1.IsWhole) (arg2 : Memref sig .tc .vmem S272x272 .f32) (harg2 : arg2.IsWhole)
  (arg3 : Memref sig .tc .vmem S260x256 .bf16) (harg3 : arg3.IsWhole) (arg4 : Memref sig .tc .vmem S260x512 .f32) (harg4 : arg4.IsWhole)
  (x0 : Vec F S272x272 .f32) (x1 : Vec F S272x272 .f32) (x2 : Vec F S260x256 .bf16) (x3 : Vec F S260x512 .f32)

/-- The band of 80 rows grid point `i` loads from a padded image. -/
def load (i : grid0.Coords) (a : Memref sig .tc .vmem S272x272 .f32) (ha : a.IsWhole) (x : Vec F S272x272 .f32) : FVec F S80x272 .f32 :=
  View.readAt (Elt F) a.view (Rect.unit (s := S272x272) (k0_off1 i) S80x272.size (k0_off1_inb i)).toLoadRect (ha.unread x)

/-- The table of ones that sums five columns, as loaded. -/
def loadU (a : Memref sig .tc .vmem S260x256 .bf16) (ha : a.IsWhole) (x : Vec F S260x256 .bf16) : FVec F S260x256 .bf16 :=
  View.readAt (Elt F) a.view (Rect.unit (s := S260x256) ![0, 0] S260x256.size (by decide)).toLoadRect (ha.unread x)

/-- The table of ones that sums five columns and the three middle ones, as loaded. -/
def loadW (a : Memref sig .tc .vmem S260x512 .f32) (ha : a.IsWhole) (x : Vec F S260x512 .f32) : FVec F S260x512 .f32 :=
  View.readAt (Elt F) a.view (Rect.unit (s := S260x512) ![0, 0] S260x512.size (by decide)).toLoadRect (ha.unread x)

/-- The second store's value is the median of the flow's column component. -/
theorem out_col : kernelRun0_A.sl.r_20 c i arg1 harg1 arg2 harg2 arg3 harg3 arg4 harg4 x0 x1 x2 x3
    = median i (flowOf i (load i arg1 harg1 x0) (load i arg2 harg2 x1) (loadU arg3 harg3 x2) (loadW arg4 harg4 x3)).2 := by chain_rfl

/-- The first store's value is the median of the flow's row component. -/
theorem out_row : kernelRun0_A.sl.v4214 c i arg1 harg1 arg2 harg2 arg3 harg3 arg4 harg4 x0 x1 x2 x3
    = shapeCast S1x1x64x256 (median i (flowOf i (load i arg1 harg1 x0) (load i arg2 harg2 x1) (loadU arg3 harg3 x2) (loadW arg4 harg4 x3)).1) (by decide) := by chain_rfl

end Cert.Flow

end
-- ==== Proof.Host.lean ====
/- What the kernel's grid points are given: the two images repeated at their edges and the two tables. -/
module

public import proofs.«01_k».proof.Proof.Gen.KernelIdeal.Value
public import proofs.«01_k».proof.Proof.Lits
public import proofs.«01_k».proof.Proof.Pads
public import proofs.«01_k».proof.Proof.KernelVal
public import proofs.«01_k».proof.Proof.BodyEq
public import Idealize.ShloMosaic.Lib.Pipeline.Regions
public import Idealize.ShloMosaic.Lib.VecWindow
public import Idealize.ShloMosaic.Lib.Pipeline.ValueKit.Tiles

@[expose] public section

set_option maxRecDepth 16384

noncomputable section

namespace Cert.Stage

open Cert.KernelIdeal Cert.KernelIdeal.Gen Idealize.ShloMosaic Idealize.ShloMosaic.TcCoe Cert.Tab Cert.Flow

variable {F : FTy → Type} [FloatOps F] [Named F]

/-- An image in a frame of its edges, eight wide. -/
def framed (x : FVec F S1x1x256x256 .f32) : FVec F S272x272 .f32 :=
  let y : FVec F S256x256 .f32 := shapeCast S256x256 x shapeCasts_S1x1x256x256_S256x256
  let v : FVec F S272x256 .f32 := concatenate S272x256 0
    [⟨S8x256, broadcastInDim S8x256 ![0, 1] bcast_S1x256_S8x256_0_1 (extractStridedSlice S1x256 ![0, 0] y slices_S256x256_S1x256_0_0)⟩, ⟨S256x256, y⟩,
      ⟨S8x256, broadcastInDim S8x256 ![0, 1] bcast_S1x256_S8x256_0_1 (extractStridedSlice S1x256 ![255, 0] y slices_S256x256_S1x256_255_0)⟩] concatenates_S8x256_S256x256_S8x256_S272x256_d0
  concatenate S272x272 1
    [⟨S272x8, broadcastInDim S272x8 ![0, 1] bcast_S272x1_S272x8_0_1 (extractStridedSlice S272x1 ![0, 0] v slices_S272x256_S272x1_0_0)⟩, ⟨S272x256, v⟩,
      ⟨S272x8, broadcastInDim S272x8 ![0, 1] bcast_S272x1_S272x8_0_1 (extractStridedSlice S272x1 ![0, 255] v slices_S272x256_S272x1_0_255)⟩] concatenates_S272x8_S272x256_S272x8_S272x272_d1

/-- The framed image's pixels. -/
theorem framed_is (f : Spec.Img) : Is (m := 272) (n := 272) (framed (F := Ideal) f) fun r c => Spec.pix f (r - 8) (c - 8) := by
  have hy := image_is f shapeCasts_S1x1x256x256_S256x256
  have hv := Is.frameRows (m' := 272) hy ((hy.slice (a := 0) (b := 0) slices_S256x256_S1x256_0_0).bcastRow bcast_S1x256_S8x256_0_1 |>.congr fun r c _ _ _ _ => by congr 1; omega)
    ((hy.slice (a := 255) (b := 0) slices_S256x256_S1x256_255_0).bcastRow bcast_S1x256_S8x256_0_1 |>.congr fun r c _ _ _ _ => by congr 1; omega)
    concatenates_S8x256_S256x256_S8x256_S272x256_d0
  refine (Is.frameCols (n' := 272) hv ((hv.slice (a := 0) (b := 0) slices_S272x256_S272x1_0_0).bcastCol bcast_S272x1_S272x8_0_1 |>.congr fun r c _ _ _ _ => by congr 1; simp)
    ((hv.slice (a := 0) (b := 255) slices_S272x256_S272x1_0_255).bcastCol bcast_S272x1_S272x8_0_1 |>.congr fun r c _ _ _ _ => by congr 1; simp)
    concatenates_S272x8_S272x256_S272x8_S272x272_d1).congr fun r c _ _ _ _ => ?_
  exact pix_clamp f (r - 8) (c - 8)

variable (m : (ℓ : Loc nD τ sig) → Buf (Elt F) ℓ) (c : Dev nD)

theorem V_first : V m c main_v10 = framed (m (c, Proc.devRef .tc main_arg0)) := by chain_rfl
theorem V_second : V m c main_v21 = framed (m (c, Proc.devRef .tc main_arg1)) := by chain_rfl
theorem V_tableU : V m c main_cst = fun i => FloatOps.ofBits .bf16 (lit0 (S260x256.rowMajor i)) := by chain_rfl
theorem V_tableW : V m c main_cst_0 = fun i => FloatOps.ofBits .f32 (lit1 (S260x512.rowMajor i)) := by chain_rfl

/-- The first table's entries. -/
theorem five_apply (k : Fin 260) (c : Fin 256) :
    Ideal.ofBits .bf16 (five (k.val * 256 + c.val)) = ((if c.val ≤ k.val ∧ k.val < c.val + 5 then 1 else 0 : ℝ) : EReal) := by
  have hc := c.isLt
  have h1 : (k.val * 256 + c.val) % 256 = c.val := by omega
  have h2 : (k.val * 256 + c.val) / 256 = k.val := by omega
  unfold five
  rw [h1, h2]
  by_cases h : c.val ≤ k.val ∧ k.val < c.val + 5
  · have e : (Nat.ble c.val k.val && Nat.ble k.val (c.val + 4)) = true := by
      rw [Bool.and_eq_true, Nat.ble_eq, Nat.ble_eq]; omega
    rw [e, if_pos h]
    show Ideal.ofBits .bf16 0x3F80#16 = _
    rw [Ideal.ofBits_one_bf16]
    rfl
  · have e : (Nat.ble c.val k.val && Nat.ble k.val (c.val + 4)) = false := by
      rw [← Bool.not_eq_true, Bool.and_eq_true, Nat.ble_eq, Nat.ble_eq]; omega
    rw [e, if_neg h]
    show Ideal.ofBits .bf16 0x0000#16 = _
    rw [Ideal.ofBits_zero_bf16]
    rfl

/-- The second table's entries. -/
theorem fives_apply (k : Fin 260) (c : Fin 512) :
    Ideal.ofBits .f32 (fives (k.val * 512 + c.val))
      = ((if c.val % 256 + c.val / 256 ≤ k.val ∧ k.val < c.val % 256 + c.val / 256 + (5 - 2 * (c.val / 256)) then 1 else 0 : ℝ) : EReal) := by
  have hc := c.isLt
  have h1 : (k.val * 512 + c.val) % 512 = c.val := by omega
  have h2 : (k.val * 512 + c.val) / 512 = k.val := by omega
  unfold fives
  rw [h1, h2]
  by_cases h : c.val % 256 + c.val / 256 ≤ k.val ∧ k.val < c.val % 256 + c.val / 256 + (5 - 2 * (c.val / 256))
  · have e : (Nat.ble (c.val % 256 + c.val / 256) k.val && Nat.ble (k.val + c.val / 256) (c.val % 256 + 4)) = true := by
      rw [Bool.and_eq_true, Nat.ble_eq, Nat.ble_eq]; omega
    rw [e, if_pos h]
    exact Spec.w_one
  · have e : (Nat.ble (c.val % 256 + c.val / 256) k.val && Nat.ble (k.val + c.val / 256) (c.val % 256 + 4)) = false := by
      rw [← Bool.not_eq_true, Bool.and_eq_true, Nat.ble_eq, Nat.ble_eq]; omega
    rw [e, if_neg h]
    exact Spec.w_zero

/-- The input windows are whole arrays: a block's index is placed at itself. -/
theorem idx_facts : ∀ t : Fin cfg0.N, (win0_0.index t (0 : Fin 2) = 0 ∧ win0_0.index t (1 : Fin 2) = 0) ∧ (win0_1.index t (0 : Fin 2) = 0 ∧ win0_1.index t (1 : Fin 2) = 0) ∧
    (win0_2.index t (0 : Fin 2) = 0 ∧ win0_2.index t (1 : Fin 2) = 0) ∧ (win0_3.index t (0 : Fin 2) = 0 ∧ win0_3.index t (1 : Fin 2) = 0) ∧
    (win0_4.index t (0 : Fin 4) = 0 ∧ win0_4.index t (1 : Fin 4) = 0 ∧ win0_4.index t (2 : Fin 4) = t.val ∧ win0_4.index t (3 : Fin 4) = 0) ∧
    (grid0.coords t 0).val = t.val ∧ (cfg0.win 4).flush t = true :=
  (by decide +kernel : ∀ t : Fin grid0.N, _)

variable (t : Fin cfg0.N)

theorem emb0 (z : S272x272.Idx) : ((cfg0.win 0).blk t).view.emb z = z := by
  obtain ⟨⟨e0, e1⟩, _⟩ := idx_facts t
  funext a; apply Fin.ext
  match a with
  | ⟨0, _⟩ => show win0_0.index t (0 : Fin 2) * 272 + 1 * (z 0).val = (z 0).val; omega
  | ⟨1, _⟩ => show win0_0.index t (1 : Fin 2) * 272 + 1 * (z 1).val = (z 1).val; omega

theorem emb1 (z : S272x272.Idx) : ((cfg0.win 1).blk t).view.emb z = z := by
  obtain ⟨_, ⟨e0, e1⟩, _⟩ := idx_facts t
  funext a; apply Fin.ext
  match a with
  | ⟨0, _⟩ => show win0_1.index t (0 : Fin 2) * 272 + 1 * (z 0).val = (z 0).val; omega
  | ⟨1, _⟩ => show win0_1.index t (1 : Fin 2) * 272 + 1 * (z 1).val = (z 1).val; omega

theorem emb2 (z : S260x256.Idx) : ((cfg0.win 2).blk t).view.emb z = z := by
  obtain ⟨_, _, ⟨e0, e1⟩, _⟩ := idx_facts t
  funext a; apply Fin.ext
  match a with
  | ⟨0, _⟩ => show win0_2.index t (0 : Fin 2) * 260 + 1 * (z 0).val = (z 0).val; omega
  | ⟨1, _⟩ => show win0_2.index t (1 : Fin 2) * 256 + 1 * (z 1).val = (z 1).val; omega

theorem emb3 (z : S260x512.Idx) : ((cfg0.win 3).blk t).view.emb z = z := by
  obtain ⟨_, _, _, ⟨e0, e1⟩, _⟩ := idx_facts t
  funext a; apply Fin.ext
  match a with
  | ⟨0, _⟩ => show win0_3.index t (0 : Fin 2) * 260 + 1 * (z 0).val = (z 0).val; omega
  | ⟨1, _⟩ => show win0_3.index t (1 : Fin 2) * 512 + 1 * (z 1).val = (z 1).val; omega

theorem iblk0_eq : iblk m c 0 t = framed (m (c, Proc.devRef .tc main_arg0)) := funext fun z => by
  show V m c main_v10 (((cfg0.win 0).blk t).view.emb z) = _
  rw [emb0, V_first]

theorem iblk1_eq : iblk m c 1 t = framed (m (c, Proc.devRef .tc main_arg1)) := funext fun z => by
  show V m c main_v21 (((cfg0.win 1).blk t).view.emb z) = _
  rw [emb1, V_second]

theorem iblk2_eq : iblk m c 2 t = fun i : S260x256.Idx => FloatOps.ofBits (F := F) .bf16 (lit0 (S260x256.rowMajor i)) := funext fun z => by
  show V m c main_cst (((cfg0.win 2).blk t).view.emb z) = _
  rw [emb2, V_tableU]

theorem iblk3_eq : iblk m c 3 t = fun i : S260x512.Idx => FloatOps.ofBits (F := F) .f32 (lit1 (S260x512.rowMajor i)) := funext fun z => by
  show V m c main_cst_0 (((cfg0.win 3).blk t).view.emb z) = _
  rw [emb3, V_tableW]

theorem load_is (i : grid0.Coords) (a : Memref sig .tc .vmem S272x272 .f32) (ha : a.IsWhole) (f : Spec.Img) :
    Is (m := 80) (n := 272) (load (F := Ideal) i a ha (framed (F := Ideal) f)) fun r c => Spec.pix f (T i - 8 + r) (c - 8) := fun j => by
  unfold Cert.Flow.load
  rw [View.readAt_apply]
  refine (congrFun (ha.read_unread _) _).trans ((framed_is f _).trans ?_)
  have h0 : (k0_off1 i) (0 : Fin 2) = 64 * (i 0).val := by rw [k0_off1_eq]; rfl
  have h1 : (k0_off1 i) (1 : Fin 2) = 0 := by rw [k0_off1_eq]; rfl
  have g0 : ((Rect.unit (s := S272x272) (k0_off1 i) S80x272.size (k0_off1_inb i)).toLoadRect.idx j (0 : Fin 2)).val = 64 * (i 0).val + (j 0).val :=
    (Rect.idx_unit_val _ _ _ _ _).trans (by rw [h0])
  have g1 : ((Rect.unit (s := S272x272) (k0_off1 i) S80x272.size (k0_off1_inb i)).toLoadRect.idx j (1 : Fin 2)).val = (j 1).val :=
    (Rect.idx_unit_val _ _ _ _ _).trans (by rw [h1, Nat.zero_add])
  beta_reduce
  rw [g0, g1]
  congr 1
  unfold T
  push_cast
  ring

theorem loadU_apply (a : Memref sig .tc .vmem S260x256 .bf16) (ha : a.IsWhole) (x : Vec Ideal S260x256 .bf16) (j : S260x256.Idx) : loadU (F := Ideal) a ha x j = x j := by
  unfold loadU
  rw [View.readAt_apply]
  refine (congrFun (ha.read_unread _) _).trans (congrArg x (funext fun b => Fin.ext ((Rect.idx_unit_val _ _ _ _ _).trans ?_)))
  match b with
  | ⟨0, _⟩ => exact Nat.zero_add _
  | ⟨1, _⟩ => exact Nat.zero_add _

theorem lit0_at (k : Fin 260) (c : Fin 256) : lit0 (S260x256.rowMajor (ValueIdx.ix2 k c)) = five (k.val * 256 + c.val) :=
  (lit0_eq _).trans (congrArg five (Shape.rowMajor_val_two _))

theorem loadU_table (a : Memref sig .tc .vmem S260x256 .bf16) (ha : a.IsWhole) :
    TableU (loadU (F := Ideal) a ha fun i => FloatOps.ofBits (F := Ideal) .bf16 (lit0 (S260x256.rowMajor i))) := fun k c =>
  (loadU_apply a ha _ _).trans ((congrArg (Ideal.ofBits .bf16) (lit0_at k c)).trans (five_apply k c))

theorem loadW_apply (a : Memref sig .tc .vmem S260x512 .f32) (ha : a.IsWhole) (x : Vec Ideal S260x512 .f32) (j : S260x512.Idx) : loadW (F := Ideal) a ha x j = x j := by
  unfold loadW
  rw [View.readAt_apply]
  refine (congrFun (ha.read_unread _) _).trans (congrArg x (funext fun b => Fin.ext ((Rect.idx_unit_val _ _ _ _ _).trans ?_)))
  match b with
  | ⟨0, _⟩ => exact Nat.zero_add _
  | ⟨1, _⟩ => exact Nat.zero_add _

theorem lit1_at (k : Fin 260) (c : Fin 512) : lit1 (S260x512.rowMajor (ValueIdx.ix2 k c)) = fives (k.val * 512 + c.val) :=
  (lit1_eq _).trans (congrArg fives (Shape.rowMajor_val_two _))

theorem loadW_table (a : Memref sig .tc .vmem S260x512 .f32) (ha : a.IsWhole) :
    TableW (loadW (F := Ideal) a ha fun i => FloatOps.ofBits (F := Ideal) .f32 (lit1 (S260x512.rowMajor i))) := fun k c =>
  (loadW_apply a ha _ _).trans ((congrArg (Ideal.ofBits .f32) (lit1_at k c)).trans (fives_apply k c))

end Cert.Stage

end
-- ==== Proof.Assemble.lean ====
/- The kernel's output array: at every pixel, the median of the flow. -/
module

public import proofs.«01_k».proof.Proof.Host
public import Idealize.ShloMosaic.Lib.WritesUnit

@[expose] public section

set_option maxRecDepth 16384

noncomputable section

namespace Cert.Stage

open Cert.KernelIdeal Cert.KernelIdeal.Gen Idealize.ShloMosaic Idealize.ShloMosaic.TcCoe Cert.Tab Cert.Flow

section Pieces

variable (c : Dev nD) (i : grid0.Coords) (arg1 : Memref sig .tc .vmem S272x272 .f32) (harg1 : arg1.IsWhole) (arg2 : Memref sig .tc .vmem S272x272 .f32) (harg2 : arg2.IsWhole)
  (arg3 : Memref sig .tc .vmem S260x256 .bf16) (harg3 : arg3.IsWhole) (arg4 : Memref sig .tc .vmem S260x512 .f32) (harg4 : arg4.IsWhole)
  (arg5 : Memref sig .tc .vmem S1x2x64x256 .f32) (harg5 : arg5.IsWhole)
  (x0 x1 : Vec Ideal S272x272 .f32) (x2 : Vec Ideal S260x256 .bf16) (x3 : Vec Ideal S260x512 .f32) (r : Fin 64) (q : Fin 256)

theorem one_band (x : FVec Ideal S64x256 .f32) (h : S64x256.ShapeCasts S1x1x64x256) : shapeCast S1x1x64x256 x h (ValueIdx.ix4 0 0 r q) = x (ValueIdx.ix2 r q) :=
  shapeCast_apply x h _ _ (by
    rw [Shape.rowMajor_val_four, Shape.rowMajor_val_two]
    simp only [ValueIdx.ix4, ValueIdx.ix2]
    simp)

theorem out_row_at : out0_A_4 c i arg1 harg1 arg2 harg2 arg3 harg3 arg4 harg4 arg5 harg5 x0 x1 x2 x3 (ValueIdx.ix4 0 0 r q)
    = median i (flowOf i (Cert.Flow.load i arg1 harg1 x0) (Cert.Flow.load i arg2 harg2 x1) (loadU arg3 harg3 x2) (loadW arg4 harg4 x3)).1 (ValueIdx.ix2 r q) := by
  unfold out0_A_4 kernelRun0_A
  dsimp only
  refine (View.read_writes_cons_unit_of_not_mem _ _ _ _ _ _ rfl (1 : Fin 4) (Or.inl Nat.one_pos)).trans ?_
  refine (View.read_writes_cons_unit_of_mem _ _ _ _ _ _ (ValueIdx.ix4 0 0 r q) rfl (fun a => by
    match a with
    | ⟨0, _⟩ => rfl
    | ⟨1, _⟩ => rfl
    | ⟨2, _⟩ => exact (Nat.zero_add _).symm
    | ⟨3, _⟩ => exact (Nat.zero_add _).symm)).trans ?_
  refine (congrFun (out_row c i arg1 harg1 arg2 harg2 arg3 harg3 arg4 harg4 x0 x1 x2 x3) _).trans ?_
  exact one_band r q _ _

theorem out_col_at : out0_A_4 c i arg1 harg1 arg2 harg2 arg3 harg3 arg4 harg4 arg5 harg5 x0 x1 x2 x3 (ValueIdx.ix4 0 1 r q)
    = median i (flowOf i (Cert.Flow.load i arg1 harg1 x0) (Cert.Flow.load i arg2 harg2 x1) (loadU arg3 harg3 x2) (loadW arg4 harg4 x3)).2 (ValueIdx.ix2 r q) := by
  unfold out0_A_4 kernelRun0_A
  dsimp only
  refine (View.read_writes_cons_unit_of_mem _ _ _ _ _ _ (ValueIdx.ix4 0 0 r q) rfl (fun a => by
    match a with
    | ⟨0, _⟩ => rfl
    | ⟨1, _⟩ => rfl
    | ⟨2, _⟩ => exact (Nat.zero_add _).symm
    | ⟨3, _⟩ => exact (Nat.zero_add _).symm)).trans ?_
  unfold k0_pay1
  refine (one_band r q _ _).trans ?_
  exact congrFun (out_col c i arg1 harg1 arg2 harg2 arg3 harg3 arg4 harg4 x0 x1 x2 x3) _

end Pieces

/-- The result at every pixel. -/
def out (f g : Spec.Img) : (⟨4, ![1, 2, 256, 256]⟩ : Shape).Idx → EReal := fun j =>
  if (j 1).val = 0 then Spec.med (Spec.flowY (Spec.Z f) (Spec.Z g)) ((j 2).val : ℤ) ((j 3).val : ℤ)
  else Spec.med (Spec.flowX (Spec.Z f) (Spec.Z g)) ((j 2).val : ℤ) ((j 3).val : ℤ)

variable (m : (ℓ : Loc nD τ sig) → Buf (Elt Ideal) ℓ) (c : Dev nD)

theorem emb4 (t : Fin cfg0.N) (h : Fin 2) (r : Fin 64) (q : Fin 256) :
    ((cfg0.win 4).blk t).view.emb (ValueIdx.ix4 0 h r q) = (ValueIdx.ix4 0 h ⟨64 * t.val + r.val, by have : t.val < 4 := t.isLt; omega⟩ q : S1x2x256x256.Idx) := by
  obtain ⟨_, _, _, _, ⟨e0, e1, e2, e3⟩, _⟩ := idx_facts t
  funext a; apply Fin.ext
  match a with
  | ⟨0, _⟩ => show win0_4.index t (0 : Fin 4) * 1 + 1 * 0 = 0; omega
  | ⟨1, _⟩ => show win0_4.index t (1 : Fin 4) * 2 + 1 * h.val = h.val; omega
  | ⟨2, _⟩ => show win0_4.index t (2 : Fin 4) * 64 + 1 * r.val = 64 * t.val + r.val; omega
  | ⟨3, _⟩ => show win0_4.index t (3 : Fin 4) * 256 + 1 * q.val = q.val; omega

/-- The output window's blocks are whole. -/
theorem cut4 (t : Fin cfg0.N) (X : S1x2x64x256.Idx → EReal) (y : S1x2x64x256.Idx) : (cfg0.win 4).cut (grid0.coords t) X y = X y := rfl

/-- The flow of a grid point. -/
def flowAt (t : Fin cfg0.N) : FVec Ideal S66x256 .f32 × FVec Ideal S66x256 .f32 :=
  flowOf (grid0.coords t) (Cert.Flow.load (grid0.coords t) (ms0_0 t) (hs0_0 t) (framed (F := Ideal) (m (c, Proc.devRef .tc main_arg0))))
    (Cert.Flow.load (grid0.coords t) (ms0_1 t) (hs0_1 t) (framed (F := Ideal) (m (c, Proc.devRef .tc main_arg1))))
    (loadU (ms0_2 t) (hs0_2 t) fun i => FloatOps.ofBits (F := Ideal) .bf16 (lit0 (S260x256.rowMajor i)))
    (loadW (ms0_3 t) (hs0_3 t) fun i => FloatOps.ofBits (F := Ideal) .f32 (lit1 (S260x512.rowMajor i)))

theorem flushed_row (t : Fin cfg0.N) (r : Fin 64) (q : Fin 256) :
    (dats m 0 c).flushed 4 t (ValueIdx.ix4 0 0 r q) = median (grid0.coords t) (flowAt m c t).1 (ValueIdx.ix2 r q) := by
  refine (congrFun (Cert.KernelIdeal.Value.flushed4_A m c t) (ValueIdx.ix4 0 0 r q)).trans ?_
  refine (cut4 t _ _).trans ?_
  refine (out_row_at c (grid0.coords t) (ms0_0 t) (hs0_0 t) (ms0_1 t) (hs0_1 t) (ms0_2 t) (hs0_2 t) (ms0_3 t) (hs0_3 t) (ms0_4 t) (hs0_4 t) _ _ _ _ r q).trans ?_
  rw [iblk0_eq, iblk1_eq, iblk2_eq, iblk3_eq]
  unfold flowAt
  rfl

theorem flushed_col (t : Fin cfg0.N) (r : Fin 64) (q : Fin 256) :
    (dats m 0 c).flushed 4 t (ValueIdx.ix4 0 1 r q) = median (grid0.coords t) (flowAt m c t).2 (ValueIdx.ix2 r q) := by
  refine (congrFun (Cert.KernelIdeal.Value.flushed4_A m c t) (ValueIdx.ix4 0 1 r q)).trans ?_
  refine (cut4 t _ _).trans ?_
  refine (out_col_at c (grid0.coords t) (ms0_0 t) (hs0_0 t) (ms0_1 t) (hs0_1 t) (ms0_2 t) (hs0_2 t) (ms0_3 t) (hs0_3 t) (ms0_4 t) (hs0_4 t) _ _ _ _ r q).trans ?_
  rw [iblk0_eq, iblk1_eq, iblk2_eq, iblk3_eq]
  unfold flowAt
  rfl

theorem flowAt_is (t : Fin cfg0.N) :
    Is (m := 66) (n := 256) (flowAt m c t).1 (fun r q => Spec.flowY (Spec.Z (m (c, Proc.devRef .tc main_arg0))) (Spec.Z (m (c, Proc.devRef .tc main_arg1))) (T (grid0.coords t) - 1 + r) q) ∧
    Is (m := 66) (n := 256) (flowAt m c t).2 (fun r q => Spec.flowX (Spec.Z (m (c, Proc.devRef .tc main_arg0))) (Spec.Z (m (c, Proc.devRef .tc main_arg1))) (T (grid0.coords t) - 1 + r) q) :=
  flowOf_is (grid0.coords t) (loadU_table (ms0_2 t) (hs0_2 t)) (loadW_table (ms0_3 t) (hs0_3 t))
    (load_is (grid0.coords t) (ms0_0 t) (hs0_0 t) (m (c, Proc.devRef .tc main_arg0))) (load_is (grid0.coords t) (ms0_1 t) (hs0_1 t) (m (c, Proc.devRef .tc main_arg1)))

theorem flushed_at (t : Fin cfg0.N) (h : Fin 2) (r : Fin 64) (q : Fin 256) (hc : (grid0.coords t 0).val = t.val) :
    (dats m 0 c).flushed 4 t (ValueIdx.ix4 0 h r q)
      = out (m (c, Proc.devRef .tc main_arg0)) (m (c, Proc.devRef .tc main_arg1)) (ValueIdx.ix4 0 h ⟨64 * t.val + r.val, by have : t.val < 4 := t.isLt; omega⟩ q) := by
  have hT : T (grid0.coords t) + (r.val : ℤ) = ((64 * t.val + r.val : ℕ) : ℤ) := by unfold T; rw [hc]; push_cast; ring
  match h with
  | ⟨0, _⟩ =>
    refine (flushed_row m c t r q).trans ((median_is (grid0.coords t) (flowAt_is m c t).1 (ValueIdx.ix2 r q)).trans ?_)
    show Spec.med _ (T (grid0.coords t) + (r.val : ℤ)) (q.val : ℤ) = _
    rw [hT]
    rfl
  | ⟨1, _⟩ =>
    refine (flushed_col m c t r q).trans ((median_is (grid0.coords t) (flowAt_is m c t).2 (ValueIdx.ix2 r q)).trans ?_)
    show Spec.med _ (T (grid0.coords t) + (r.val : ℤ)) (q.val : ℤ) = _
    rw [hT]
    rfl

theorem final_at (t : Fin cfg0.N) (h : Fin 2) (r : Fin 64) (q : Fin 256) :
    (dats m 0 c).arrAt 4 cfg0.N (ValueIdx.ix4 0 h ⟨64 * t.val + r.val, by have : t.val < 4 := t.isLt; omega⟩ q : S1x2x256x256.Idx)
      = out (m (c, Proc.devRef .tc main_arg0)) (m (c, Proc.devRef .tc main_arg1)) (ValueIdx.ix4 0 h ⟨64 * t.val + r.val, by have : t.val < 4 := t.isLt; omega⟩ q) := by
  obtain ⟨_, _, _, _, _, hc, hfl⟩ := idx_facts t
  refine (congrArg ((dats m 0 c).arrAt 4 cfg0.N) (emb4 t h r q).symm).trans ?_
  exact (congrFun (Cert.KernelIdeal.Value.blocks4 m c t hfl) (ValueIdx.ix4 0 h r q)).trans (flushed_at m c t h r q hc)

/-- The kernel's output array after its run. -/
theorem final : (dats m 0 c).arrAt 4 cfg0.N = out (m (c, Proc.devRef .tc main_arg0)) (m (c, Proc.devRef .tc main_arg1)) := funext fun j => by
  have h2 : (j 2).val < 256 := (j 2).isLt
  have h := final_at m c ⟨(j 2).val / 64, by show _ < 4; omega⟩ (j 1) ⟨(j 2).val % 64, by omega⟩ (j 3)
  have e : (ValueIdx.ix4 0 (j 1) ⟨64 * ((j 2).val / 64) + (j 2).val % 64, by omega⟩ (j 3) : S1x2x256x256.Idx) = j := funext fun a => by
    match a with
    | ⟨0, _⟩ => exact (Subsingleton.elim (α := Fin 1) _ _)
    | ⟨1, _⟩ => rfl
    | ⟨2, _⟩ => exact Fin.ext (Nat.div_add_mod _ _)
    | ⟨3, _⟩ => rfl
  rw [← e]
  exact h

end Cert.Stage

end
-- ==== Proof.RefBody.lean ====
/- The reference as mathematics: its stages as functions of whole arrays, each written once. -/
module

public import proofs.«01_k».proof.Proof.Gen.ReferenceIdeal.Run
public import proofs.«01_k».proof.Proof.Body

@[expose] public section

set_option maxRecDepth 16384

noncomputable section

namespace Cert.RefFlow

open Cert.ReferenceIdeal Cert.ReferenceIdeal.Gen Cert.ReferenceIdeal.Value Idealize.ShloMosaic Idealize.ShloMosaic.StableHlo

variable {F : FTy → Type} [FloatOps F]

/-- An array of shape `s` filled with the float of word `b`. -/
abbrev fill (s : Shape) (h : S_.BroadcastsInDim s (![] : Fin 0 → Fin s.rank)) (b : BitVec 32) : FVec F s .f32 := broadcastInDim s ![] h (constant S_ .f32 b)

/-- An image with its edges repeated once on every side. -/
def edge (x : FVec F S256x256 .f32) : FVec F S258x258 .f32 :=
  let v : FVec F S258x256 .f32 := concatenate S258x256 0 [⟨S1x256, extractStridedSlice S1x256 ![0, 0] x⟩, ⟨S256x256, x⟩,
    ⟨S1x256, extractStridedSlice S1x256 ![255, 0] x⟩] concatenates_S1x256_S256x256_S1x256_S258x256_d0
  concatenate S258x258 1 [⟨S258x1, extractStridedSlice S258x1 ![0, 0] v⟩, ⟨S258x256, v⟩,
    ⟨S258x1, extractStridedSlice S258x1 ![0, 255] v⟩] concatenates_S258x1_S258x256_S258x1_S258x258_d1

/-- The smoothing down the columns. -/
def smoothV (p : FVec F S258x258 .f32) : FVec F S256x258 .f32 :=
  Host.divf (addf (addf (extractStridedSlice S256x258 ![0, 0] p)
    (mulf (fill S256x258 bcast_S_S256x258 0x40000000#32) (extractStridedSlice S256x258 ![1, 0] p)))
    (extractStridedSlice S256x258 ![2, 0] p)) (fill S256x258 bcast_S_S256x258 0x40800000#32)

/-- The smoothing along the rows. -/
def smoothH (v : FVec F S256x258 .f32) : FVec F S256x256 .f32 :=
  Host.divf (addf (addf (extractStridedSlice S256x256 ![0, 0] v)
    (mulf (fill S256x256 bcast_S_S256x256 0x40000000#32) (extractStridedSlice S256x256 ![0, 1] v)))
    (extractStridedSlice S256x256 ![0, 2] v)) (fill S256x256 bcast_S_S256x256 0x40800000#32)

/-- The quantised image. -/
def quant (x : FVec F S256x256 .f32) : FVec F S256x256 .f32 :=
  minimumf (fill S256x256 bcast_S_S256x256 0x437F0000#32) (maximumf (fill S256x256 bcast_S_S256x256 0x00000000#32)
    (Host.roundeven (mulf (smoothH (smoothV (edge x))) (fill S256x256 bcast_S_S256x256 0x437F0000#32))))

/-- An image in a frame of zeros, two wide. -/
def pad2 (x : FVec F S256x256 .f32) : FVec F S260x260 .f32 :=
  pad S260x260 ![2, 2] ![2, 2] ![0, 0] x (constant S_ .f32 0x00000000#32) pads_S256x256_S260x260_220_220 h_S_

/-- An image in a frame of zeros, five wide. -/
def pad5 (x : FVec F S256x256 .f32) : FVec F S266x266 .f32 :=
  pad S266x266 ![5, 5] ![5, 5] ![0, 0] x (constant S_ .f32 0x00000000#32) pads_S256x256_S266x266_550_550 h_S_

theorem s260r (k : Fin 5) : S260x260.Slices ![k.val, 0] S256x260 :=
  ⟨rfl, fun a => by
    match a with
    | ⟨0, _⟩ => show k.val + 256 ≤ 260; omega
    | ⟨1, _⟩ => show 0 + 260 ≤ 260; omega⟩

theorem s260c (k : Fin 5) : S256x260x5.Slices ![0, k.val, 0] S256x256x5 :=
  ⟨rfl, fun a => by
    match a with
    | ⟨0, _⟩ => show 0 + 256 ≤ 256; omega
    | ⟨1, _⟩ => show k.val + 256 ≤ 260; omega
    | ⟨2, _⟩ => show 0 + 5 ≤ 5; omega⟩

theorem s266r (k : Fin 5) : S266x266.Slices ![k.val, 0] S262x266 :=
  ⟨rfl, fun a => by
    match a with
    | ⟨0, _⟩ => show k.val + 262 ≤ 266; omega
    | ⟨1, _⟩ => show 0 + 266 ≤ 266; omega⟩

theorem s266c (k : Fin 5) : S262x266x5.Slices ![0, k.val, 0] S262x262x5 :=
  ⟨rfl, fun a => by
    match a with
    | ⟨0, _⟩ => show 0 + 262 ≤ 262; omega
    | ⟨1, _⟩ => show k.val + 262 ≤ 266; omega
    | ⟨2, _⟩ => show 0 + 5 ≤ 5; omega⟩

/-- Every pixel's five-by-five patch of a padded image. -/
def patches (p : FVec F S260x260 .f32) : FVec F S256x256x5x5 .f32 :=
  let v : FVec F S256x260x5 .f32 := concatenate S256x260x5 2 (List.ofFn fun k : Fin 5 => (⟨S256x260x1,
    broadcastInDim S256x260x1 ![0, 1] bcast_S256x260_S256x260x1_0_1 (extractStridedSlice S256x260 ![k.val, 0] p (s260r k))⟩ : (s : Shape) × (s.Idx → F .f32)))
    concatenates_S256x260x1_S256x260x1_S256x260x1_S256x260x1_S256x260x1_S256x260x5_d2
  concatenate S256x256x5x5 3 (List.ofFn fun k : Fin 5 => (⟨S256x256x5x1,
    broadcastInDim S256x256x5x1 ![0, 1, 2] bcast_S256x256x5_S256x256x5x1_0_1_2 (extractStridedSlice S256x256x5 ![0, k.val, 0] v (s260c k))⟩ : (s : Shape) × (s.Idx → F .f32)))
    concatenates_S256x256x5x1_S256x256x5x1_S256x256x5x1_S256x256x5x1_S256x256x5x1_S256x256x5x5_d3

/-- The patches of the wider image, around it by three pixels too. -/
def widePatches (p : FVec F S266x266 .f32) : FVec F S262x262x5x5 .f32 :=
  let v : FVec F S262x266x5 .f32 := concatenate S262x266x5 2 (List.ofFn fun k : Fin 5 => (⟨S262x266x1,
    broadcastInDim S262x266x1 ![0, 1] bcast_S262x266_S262x266x1_0_1 (extractStridedSlice S262x266 ![k.val, 0] p (s266r k))⟩ : (s : Shape) × (s.Idx → F .f32)))
    concatenates_S262x266x1_S262x266x1_S262x266x1_S262x266x1_S262x266x1_S262x266x5_d2
  concatenate S262x262x5x5 3 (List.ofFn fun k : Fin 5 => (⟨S262x262x5x1,
    broadcastInDim S262x262x5x1 ![0, 1, 2] bcast_S262x262x5_S262x262x5x1_0_1_2 (extractStridedSlice S262x262x5 ![0, k.val, 0] v (s266c k))⟩ : (s : Shape) × (s.Idx → F .f32)))
    concatenates_S262x262x5x1_S262x262x5x1_S262x262x5x1_S262x262x5x1_S262x262x5x1_S262x262x5x5_d3

/-- The `k`-th displacement, in the search's order. -/
def disp (k : Fin 49) : Fin 7 × Fin 7 := ((3, 3) :: Cert.Flow.spiral)[k.val]

theorem swin (a b : Fin 7) : S262x262x5x5.Slices ![a.val, b.val, 0, 0] S256x256x5x5 :=
  ⟨rfl, fun k => by
    match k with
    | ⟨0, _⟩ => show a.val + 256 ≤ 262; omega
    | ⟨1, _⟩ => show b.val + 256 ≤ 262; omega
    | ⟨2, _⟩ => show 0 + 5 ≤ 5; omega
    | ⟨3, _⟩ => show 0 + 5 ≤ 5; omega⟩

/-- The patches displaced by the `k`-th displacement. -/
def windowOf (w : FVec F S262x262x5x5 .f32) (k : Fin 49) : FVec F S1x256x256x5x5 .f32 :=
  broadcastInDim S1x256x256x5x5 ![1, 2, 3, 4] bcast_S256x256x5x5_S1x256x256x5x5_1_2_3_4
    (extractStridedSlice S256x256x5x5 ![(disp k).1.val, (disp k).2.val, 0, 0] w (swin (disp k).1 (disp k).2))

/-- All the displaced patches. -/
def windows (w : FVec F S262x262x5x5 .f32) : FVec F S49x256x256x5x5 .f32 :=
  concatenate S49x256x256x5x5 0 (List.ofFn fun a : Fin 7 => (⟨S7x256x256x5x5,
    concatenate S7x256x256x5x5 0 (List.ofFn fun b : Fin 7 => (⟨S1x256x256x5x5, windowOf w ⟨7 * a.val + b.val, by omega⟩⟩ : (s : Shape) × (s.Idx → F .f32)))
      concatenates_S1x256x256x5x5_S1x256x256x5x5_S1x256x256x5x5_S1x256x256x5x5_S1x256x256x5x5_S1x256x256x5x5_S1x256x256x5x5_S7x256x256x5x5_d0⟩ : (s : Shape) × (s.Idx → F .f32)))
    concatenates_S7x256x256x5x5_S7x256x256x5x5_S7x256x256x5x5_S7x256x256x5x5_S7x256x256x5x5_S7x256x256x5x5_S7x256x256x5x5_S49x256x256x5x5_d0

/-- A row of 49 floats, given by their words. -/
def row (b : Fin 49 → BitVec 32) : FVec F S49x1x1 .f32 :=
  concatenate S49x1x1 0 (List.ofFn fun a : Fin 7 => (⟨S7x1x1,
    concatenate S7x1x1 0 (List.ofFn fun k : Fin 7 => (⟨S1x1x1, constant S1x1x1 .f32 (b ⟨7 * a.val + k.val, by omega⟩)⟩ : (s : Shape) × (s.Idx → F .f32)))
      concatenates_S1x1x1_S1x1x1_S1x1x1_S1x1x1_S1x1x1_S1x1x1_S1x1x1_S7x1x1_d0⟩ : (s : Shape) × (s.Idx → F .f32)))
    concatenates_S7x1x1_S7x1x1_S7x1x1_S7x1x1_S7x1x1_S7x1x1_S7x1x1_S49x1x1_d0

/-- The word of `3 - a`. -/
def word : Fin 7 → BitVec 32 := ![0x40400000#32, 0x40000000#32, 0x3F800000#32, 0x00000000#32, 0xBF800000#32, 0xC0000000#32, 0xC0400000#32]

/-- The costs of all displacements. -/
def costs (t : FVec F S256x256x5x5 .f32) (ws : FVec F S49x256x256x5x5 .f32) : FVec F S49x256x256 .f32 :=
  Host.reduceAdd (Host.absf (subf ws (broadcastInDim S49x256x256x5x5 ![0, 1, 2, 3, 4] bcast_S1x256x256x5x5_S49x256x256x5x5_0_1_2_3_4
    (broadcastInDim S1x256x256x5x5 ![1, 2, 3, 4] bcast_S256x256x5x5_S1x256x256x5x5_1_2_3_4 t)))) (constant S_ .f32 0x00000000#32) reducesTo_S49x256x256x5x5_S49x256x256_d3_4 h_S_

/-- The displacements' numbers. -/
def order : IVec S49x1x1 32 := broadcastInDim S49x1x1 ![0] bcast_S49_S49x1x1_0 (iotaInDim S49 32 0)

/-- Where a displacement's cost is the least. -/
def least (c : FVec F S49x256x256 .f32) : IVec S49x256x256 1 :=
  cmpf .oeq c (broadcastInDim S49x256x256 ![0, 1, 2] bcast_S1x256x256_S49x256x256_0_1_2 (broadcastInDim S1x256x256 ![1, 2] bcast_S256x256_S1x256x256_1_2
    (Host.reduce FloatOps.minimumf c (constant S_ .f32 0x7F800000#32) reducesTo_S49x256x256_S256x256_d0 h_S_)))

/-- Where a displacement is the first of least cost. -/
def chosen (c : FVec F S49x256x256 .f32) : IVec S49x256x256 1 :=
  cmpi .eq (broadcastInDim S49x256x256 ![0, 1, 2] bcast_S49x1x1_S49x256x256_0_1_2 order)
    (broadcastInDim S49x256x256 ![0, 1, 2] bcast_S1x256x256_S49x256x256_0_1_2 (broadcastInDim S1x256x256 ![1, 2] bcast_S256x256_S1x256x256_1_2
      (Host.reduce IntOp.minsi (select (least c) (broadcastInDim S49x256x256 ![0, 1, 2] bcast_S49x1x1_S49x256x256_0_1_2 order)
        (broadcastInDim S49x256x256 ![] bcast_S_S49x256x256 (id (constantI S_ 32 49#32)))) (constantI S_ 32 2147483647#32) reducesTo_S49x256x256_S256x256_d0 h_S_)))

/-- The patches at the chosen displacement. -/
def pickPatch (ch : IVec S49x256x256 1) (ws : FVec F S49x256x256x5x5 .f32) : FVec F S256x256x5x5 .f32 :=
  Host.reduceAdd (select (broadcastInDim S49x256x256x5x5 ![0, 1, 2, 3, 4] bcast_S49x256x256x1x1_S49x256x256x5x5_0_1_2_3_4
    (broadcastInDim S49x256x256x1x1 ![0, 1, 2] bcast_S49x256x256_S49x256x256x1x1_0_1_2 ch)) ws (fill S49x256x256x5x5 bcast_S_S49x256x256x5x5 0x00000000#32))
    (constant S_ .f32 0x00000000#32) reducesTo_S49x256x256x5x5_S256x256x5x5_d0 h_S_

/-- A row's entry at the chosen displacement. -/
def pickRow (ch : IVec S49x256x256 1) (r : FVec F S49x1x1 .f32) : FVec F S256x256 .f32 :=
  Host.reduceAdd (select ch (broadcastInDim S49x256x256 ![0, 1, 2] bcast_S49x1x1_S49x256x256_0_1_2 r) (fill S49x256x256 bcast_S_S49x256x256 0x00000000#32))
    (constant S_ .f32 0x00000000#32) reducesTo_S49x256x256_S256x256_d0 h_S_

/-- The vertical central difference. -/
def gradY (p : FVec F S258x258 .f32) : FVec F S256x256 .f32 :=
  Host.divf (subf (extractStridedSlice S256x256 ![2, 1] p) (extractStridedSlice S256x256 ![0, 1] p)) (fill S256x256 bcast_S_S256x256 0x40000000#32)

/-- The horizontal central difference. -/
def gradX (p : FVec F S258x258 .f32) : FVec F S256x256 .f32 :=
  Host.divf (subf (extractStridedSlice S256x256 ![1, 2] p) (extractStridedSlice S256x256 ![1, 0] p)) (fill S256x256 bcast_S_S256x256 0x40000000#32)

/-- An image over 255. -/
def unit (x : FVec F S256x256 .f32) : FVec F S256x256 .f32 := Host.divf x (fill S256x256 bcast_S_S256x256 0x437F0000#32)

/-- Patches over 255. -/
def unitP (x : FVec F S256x256x5x5 .f32) : FVec F S256x256x5x5 .f32 := Host.divf x (fill S256x256x5x5 bcast_S_S256x256x5x5 0x437F0000#32)

/-- One on the border of a patch, zero inside. -/
def mask : FVec F S5x5 .f32 :=
  pad S5x5 ![1, 1] ![1, 1] ![0, 0] (fill S3x3 bcast_S_S3x3 0x00000000#32) (constant S_ .f32 0x3F800000#32) pads_S3x3_S5x5_110_110 h_S_

/-- The sum over a patch's border. -/
def border (x : FVec F S256x256x5x5 .f32) : FVec F S256x256 .f32 :=
  Host.reduceAdd (mulf x (broadcastInDim S256x256x5x5 ![0, 1, 2, 3] bcast_S1x1x5x5_S256x256x5x5_0_1_2_3 (broadcastInDim S1x1x5x5 ![2, 3] bcast_S5x5_S1x1x5x5_2_3 mask)))
    (constant S_ .f32 0x00000000#32) reducesTo_S256x256x5x5_S256x256_d2_3 h_S_

/-- The determinant's threshold test. -/
def bad (det : FVec F S256x256 .f32) : IVec S256x256 1 := cmpf .ole det (fill S256x256 bcast_S_S256x256 0x33D6BF95#32)

/-- The determinant, one where it is too small. -/
def safe (det : FVec F S256x256 .f32) : FVec F S256x256 .f32 := select (bad det) (fill S256x256 bcast_S_S256x256 0x3F800000#32) det

/-- A sub-pixel component, zero where the determinant is too small or the component reaches one. -/
def clear (det u : FVec F S256x256 .f32) : FVec F S256x256 .f32 :=
  select (ori (bad det) (cmpf .oge (Host.absf u) (fill S256x256 bcast_S_S256x256 0x3F800000#32))) (fill S256x256 bcast_S_S256x256 0x00000000#32) u

/-- The flow's two components before the median: rows, then columns. -/
def flow (f g : FVec F S256x256 .f32) : FVec F S256x256 .f32 × FVec F S256x256 .f32 :=
  let t : FVec F S256x256x5x5 .f32 := patches (pad2 (quant f))
  let ws : FVec F S49x256x256x5x5 .f32 := windows (widePatches (pad5 (quant g)))
  let ch : IVec S49x256x256 1 := chosen (costs t ws)
  let p : FVec F S258x258 .f32 := edge (unit (quant f))
  let dy : FVec F S256x256x5x5 .f32 := patches (pad2 (gradY p))
  let dx : FVec F S256x256x5x5 .f32 := patches (pad2 (gradX p))
  let a : FVec F S256x256 .f32 := border (mulf dx dx)
  let b : FVec F S256x256 .f32 := border (mulf dx dy)
  let d : FVec F S256x256 .f32 := border (mulf dy dy)
  let z : FVec F S256x256x5x5 .f32 := subf (unitP (pickPatch ch ws)) (unitP t)
  let px : FVec F S256x256 .f32 := border (mulf z dx)
  let py : FVec F S256x256 .f32 := border (mulf z dy)
  let det : FVec F S256x256 .f32 := subf (mulf a d) (mulf b b)
  let u : FVec F S256x256 .f32 := Host.divf (subf (mulf d px) (mulf b py)) (safe det)
  let v : FVec F S256x256 .f32 := Host.divf (subf (mulf a py) (mulf b px)) (safe det)
  (addf (pickRow ch (row fun k => word (disp k).1)) (clear det v), addf (pickRow ch (row fun k => word (disp k).2)) (clear det u))

theorem s258 (a b : Fin 3) : S258x258.Slices ![a.val, b.val] S256x256 :=
  ⟨rfl, fun k => by
    match k with
    | ⟨0, _⟩ => show a.val + 256 ≤ 258; omega
    | ⟨1, _⟩ => show b.val + 256 ≤ 258; omega⟩

/-- A pixel's nine neighbours, row by row. -/
def nine (p : FVec F S258x258 .f32) : FVec F S9x256x256 .f32 :=
  concatenate S9x256x256 0 (List.ofFn fun k : Fin 9 => (⟨S1x256x256, broadcastInDim S1x256x256 ![1, 2] bcast_S256x256_S1x256x256_1_2
    (extractStridedSlice S256x256 ![k.val / 3, k.val % 3] p (s258 ⟨k.val / 3, by omega⟩ ⟨k.val % 3, by omega⟩))⟩ : (s : Shape) × (s.Idx → F .f32)))
    concatenates_S1x256x256_S1x256x256_S1x256x256_S1x256x256_S1x256x256_S1x256x256_S1x256x256_S1x256x256_S1x256x256_S9x256x256_d0

/-- The median over the three-by-three neighbourhood: the fifth of the nine sorted. -/
def median (x : FVec F S256x256 .f32) : FVec F S256x256 .f32 :=
  shapeCast S256x256 (extractStridedSlice S1x256x256 ![4, 0, 0] (Host.sort S9x256x256 0 comparator_f32_d0 (nine (edge x))) slices_S9x256x256_S1x256x256_4_0_0) shapeCasts_S1x256x256_S256x256

/-- An argument as a two-dimensional image. -/
def image (x : FVec F S1x1x256x256 .f32) : FVec F S256x256 .f32 := shapeCast S256x256 x shapeCasts_S1x1x256x256_S256x256

/-- The reference's result. -/
def result (f g : FVec F S1x1x256x256 .f32) : FVec F S2x256x256 .f32 :=
  concatenate S2x256x256 0 [⟨S1x256x256, broadcastInDim S1x256x256 ![1, 2] bcast_S256x256_S1x256x256_1_2 (median (flow (image f) (image g)).1)⟩,
    ⟨S1x256x256, broadcastInDim S1x256x256 ![1, 2] bcast_S256x256_S1x256x256_1_2 (median (flow (image f) (image g)).2)⟩] concatenates_S1x256x256_S1x256x256_S2x256x256_d0

/-- What the reference's run leaves, as that result. -/
theorem res_eq (V0 : Valuation τ sig (Elt F)) : res_main_v430 V0 = result (V0 (Proc.devRef .tc main_arg0)) (V0 (Proc.devRef .tc main_arg1)) := by chain_rfl

end Cert.RefFlow

end
-- ==== Proof.RefPix.lean ====
/- The reference's planes and patches, on whole-number pixel coordinates. -/
module

public import proofs.«01_k».proof.Proof.RefBody
public import proofs.«01_k».proof.Proof.Pads

@[expose] public section

set_option maxRecDepth 16384

noncomputable section

namespace Cert.RefPix

open Cert.ReferenceIdeal Cert.ReferenceIdeal.Gen Idealize.ShloMosaic Cert.Tab Cert.RefFlow

/-- A coordinate moved to the nearest one of the image. -/
abbrev near (y : ℤ) : ℤ := max 0 (min y 255)

theorem near_of {y : ℤ} (h : 0 ≤ y) (h' : y < 256) : near y = y := by unfold near; omega

/-- A framed image's pixels. -/
theorem edge_is {x : FVec Ideal S256x256 .f32} {φ : ℤ → ℤ → EReal} (hx : Is (m := 256) (n := 256) x φ) :
    Is (m := 258) (n := 258) (edge x) fun r c => φ (near (r - 1)) (near (c - 1)) := by
  have hv := Is.frameRows (m' := 258) hx ((hx.slice (a := 0) (b := 0) slices_S256x256_S1x256_0_0).congr fun r c _ _ _ _ => by congr 1 <;> omega)
    ((hx.slice (a := 255) (b := 0) slices_S256x256_S1x256_255_0).congr fun r c _ _ _ _ => by congr 1 <;> omega)
    concatenates_S1x256_S256x256_S1x256_S258x256_d0
  exact (Is.frameCols (n' := 258) hv ((hv.slice (a := 0) (b := 0) slices_S258x256_S258x1_0_0).congr fun r c _ _ _ _ => by congr 1 <;> simp <;> omega)
    ((hv.slice (a := 0) (b := 255) slices_S258x256_S258x1_0_255).congr fun r c _ _ _ _ => by congr 1 <;> simp <;> omega)
    concatenates_S258x1_S258x256_S258x1_S258x258_d1).congr fun r c _ _ _ _ => rfl

/-- A quarter of a number. -/
theorem quarter (x : EReal) : Ideal.div x (Ideal.ofBits .f32 0x40800000#32) = x * Ideal.ofBits .f32 0x3E800000#32 := by
  rw [Spec.w_four, Ideal.div_coe (by norm_num), Spec.w_quarter]

theorem smoothV_is {p : FVec Ideal S258x258 .f32} {φ : ℤ → ℤ → EReal} (hp : Is (m := 258) (n := 258) p φ) :
    Is (m := 256) (n := 258) (smoothV p) fun r c => Spec.blend (φ r c) (φ (r + 1) c) (φ (r + 2) c) := fun j => by
  have h0 := hp.slice (m' := 256) (n' := 258) (a := 0) (b := 0) (by decide) j
  have h1 := hp.slice (m' := 256) (n' := 258) (a := 1) (b := 0) (by decide) j
  have h2 := hp.slice (m' := 256) (n' := 258) (a := 2) (b := 0) (by decide) j
  refine (quarter _).trans ?_
  refine (congrArg (· * Ideal.ofBits .f32 0x3E800000#32) (congrArg₂ (· + ·) (congrArg₂ (· + ·) h0 (congrArg (Ideal.ofBits .f32 0x40000000#32 * ·) h1)) h2)).trans ?_
  beta_reduce
  unfold Spec.blend
  congr 1
  congr 1
  · congr 1
    · congr 1 <;> simp
    · congr 2 <;> simp [add_comm]
  · congr 1 <;> simp [add_comm]

theorem smoothH_is {p : FVec Ideal S256x258 .f32} {φ : ℤ → ℤ → EReal} (hp : Is (m := 256) (n := 258) p φ) :
    Is (m := 256) (n := 256) (smoothH p) fun r c => Spec.blend (φ r c) (φ r (c + 1)) (φ r (c + 2)) := fun j => by
  have h0 := hp.slice (m' := 256) (n' := 256) (a := 0) (b := 0) (by decide) j
  have h1 := hp.slice (m' := 256) (n' := 256) (a := 0) (b := 1) (by decide) j
  have h2 := hp.slice (m' := 256) (n' := 256) (a := 0) (b := 2) (by decide) j
  refine (quarter _).trans ?_
  refine (congrArg (· * Ideal.ofBits .f32 0x3E800000#32) (congrArg₂ (· + ·) (congrArg₂ (· + ·) h0 (congrArg (Ideal.ofBits .f32 0x40000000#32 * ·) h1)) h2)).trans ?_
  beta_reduce
  unfold Spec.blend
  congr 1
  congr 1
  · congr 1
    · congr 1 <;> simp
    · congr 2 <;> simp [add_comm]
  · congr 1 <;> simp [add_comm]

/-- The quantised image. -/
theorem quant_is (f : Spec.Img) : IsR (m := 256) (n := 256) (quant (F := Ideal) (image (F := Ideal) f)) (Spec.Z f) := fun j => by
  have h := smoothH_is (smoothV_is (edge_is (image_is f shapeCasts_S1x1x256x256_S256x256))) j
  have h0 := lt0 (m := 256) (n := 256) j
  have h1 := lt1 (m := 256) (n := 256) j
  have e : smoothH (smoothV (edge (image (F := Ideal) f))) j = Spec.smooth (Spec.pix f) ((j 0).val : ℤ) ((j 1).val : ℤ) := by
    refine h.trans ?_
    beta_reduce
    simp only [near, pix_clamp]
    unfold Spec.smooth
    have a1 : ∀ z : ℤ, z + 1 - 1 = z := fun z => by ring
    have a2 : ∀ z : ℤ, z + 2 - 1 = z + 1 := fun z => by ring
    simp only [a1, a2]
  refine (congrArg Spec.byte e).trans ?_
  unfold Spec.Z
  beta_reduce
  rw [if_pos ⟨Int.natCast_nonneg _, h0, Int.natCast_nonneg _, h1⟩]
  exact Spec.byte_real _

/-- An image in a frame of zeros. -/
theorem pad_is {e m' : ℕ} {x : FVec Ideal S256x256 .f32} {φ : ℤ → ℤ → ℝ} (hx : IsR (m := 256) (n := 256) x φ)
    (h : (Sh 256 256).Pads ![e, e] ![e, e] ![0, 0] (Sh m' m')) (hu : 0 < S_.numel) (hz : ∀ y x, ¬ Spec.In y x → φ y x = 0) :
    IsR (m := m') (n := m') (pad (Sh m' m') ![e, e] ![e, e] ![0, 0] x (constant (F := Ideal) S_ .f32 0x00000000#32) h hu) fun r c => φ (r - e) (c - e) := fun j => by
  beta_reduce
  unfold pad
  split_ifs with hin
  · refine (hx _).trans ?_
    have h0 := (hin 0).1
    have h1 := (hin 1).1
    have h0' : e ≤ (j 0).val := h0
    have h1' : e ≤ (j 1).val := h1
    beta_reduce
    congr 2
    · show ((((j 0).val - e) / (0 + 1) : ℕ) : ℤ) = _
      rw [Nat.div_one, Nat.cast_sub h0']
    · show ((((j 1).val - e) / (0 + 1) : ℕ) : ℤ) = _
      rw [Nat.div_one, Nat.cast_sub h1']
  · rw [hz]
    · exact Spec.w_zero
    · rintro ⟨a0, a1, a2, a3⟩
      refine hin fun a => ?_
      match a with
      | ⟨0, _⟩ =>
        refine ⟨?_, Nat.mod_one _, ?_⟩
        · show e ≤ (j 0).val; omega
        · show ((j 0).val - e) / (0 + 1) < 256; rw [Nat.div_one]; omega
      | ⟨1, _⟩ =>
        refine ⟨?_, Nat.mod_one _, ?_⟩
        · show e ≤ (j 1).val; omega
        · show ((j 1).val - e) / (0 + 1) < 256; rw [Nat.div_one]; omega

/-! ## Patches -/

/-- A shifted slice of a plane of columns. -/
theorem shifted256 {v : FVec Ideal S256x260x5 .f32} {φ : ℤ → ℤ → EReal} (hv : ∀ l : S256x260x5.Idx, v l = φ ((l 0).val + (l 2).val) (l 1).val) (k : Fin 5)
    (l : S256x256x5x1.Idx) : broadcastInDim S256x256x5x1 ![0, 1, 2] bcast_S256x256x5_S256x256x5x1_0_1_2 (extractStridedSlice S256x256x5 ![0, k.val, 0] v (s260c k)) l
      = φ ((l 0).val + (l 2).val) (k.val + (l 1).val) := by
  refine (hv _).trans ?_
  show φ (((0 + (l 0).val : ℕ) : ℤ) + ((0 + (l 2).val : ℕ) : ℤ)) ((k.val + (l 1).val : ℕ) : ℤ) = _
  push_cast
  congr 1 <;> ring

/-- Every pixel's patch. -/
theorem patches_is {p : FVec Ideal S260x260 .f32} {φ : ℤ → ℤ → EReal} (hp : Is (m := 260) (n := 260) p φ) (j : S256x256x5x5.Idx) :
    patches p j = φ ((j 0).val + (j 2).val) ((j 1).val + (j 3).val) := by
  have h0 : (j 0).val < 256 := (j 0).isLt
  have h1 : (j 1).val < 256 := (j 1).isLt
  have h2 : (j 2).val < 5 := (j 2).isLt
  have h3 : (j 3).val < 5 := (j 3).isLt
  have hv : ∀ l : S256x260x5.Idx, concatenate S256x260x5 2 (List.ofFn fun k : Fin 5 => (⟨S256x260x1,
      broadcastInDim S256x260x1 ![0, 1] bcast_S256x260_S256x260x1_0_1 (extractStridedSlice S256x260 ![k.val, 0] p (s260r k))⟩ : (s : Shape) × (s.Idx → Ideal .f32)))
      concatenates_S256x260x1_S256x260x1_S256x260x1_S256x260x1_S256x260x1_S256x260x5_d2 l = φ ((l 0).val + (l 2).val) (l 1).val := fun l => by
    have h2 : (l 2).val < 5 := (l 2).isLt
    refine (concatenate_ofFn_unit_apply (s₁ := S256x260x1) (t := S256x260x5) (N := 5) 2 _ _ rfl rfl l ⟨(l 2).val, h2⟩ rfl (ValueIdx.ix3 (l 0) (l 1) 0 : S256x260x1.Idx) (fun b hb => by
      match b with
      | ⟨0, _⟩ => rfl
      | ⟨1, _⟩ => rfl
      | ⟨2, _⟩ => exact absurd rfl hb)).trans ?_
    refine (hp _).trans ?_
    show φ (((l 2).val + (l 0).val : ℕ) : ℤ) ((0 + (l 1).val : ℕ) : ℤ) = _
    push_cast
    congr 1 <;> ring
  unfold patches
  dsimp only
  refine (concatenate_ofFn_unit_apply (s₁ := S256x256x5x1) (t := S256x256x5x5) (N := 5) 3 _ _ rfl rfl j ⟨(j 3).val, h3⟩ rfl (ValueIdx.ix4 ⟨(j 0).val, h0⟩ ⟨(j 1).val, h1⟩ ⟨(j 2).val, h2⟩ 0 : S256x256x5x1.Idx) (fun b hb => by
    match b with
    | ⟨0, _⟩ => rfl
    | ⟨1, _⟩ => rfl
    | ⟨2, _⟩ => rfl
    | ⟨3, _⟩ => exact absurd rfl hb)).trans ?_
  refine (shifted256 hv _ _).trans ?_
  show φ ((j 0).val + (j 2).val) ((j 3).val + (j 1).val) = _
  rw [add_comm ((j 3).val : ℤ)]

/-- A shifted slice of a plane of columns. -/
theorem shifted262 {v : FVec Ideal S262x266x5 .f32} {φ : ℤ → ℤ → EReal} (hv : ∀ l : S262x266x5.Idx, v l = φ ((l 0).val + (l 2).val) (l 1).val) (k : Fin 5)
    (l : S262x262x5x1.Idx) : broadcastInDim S262x262x5x1 ![0, 1, 2] bcast_S262x262x5_S262x262x5x1_0_1_2 (extractStridedSlice S262x262x5 ![0, k.val, 0] v (s266c k)) l
      = φ ((l 0).val + (l 2).val) (k.val + (l 1).val) := by
  refine (hv _).trans ?_
  show φ (((0 + (l 0).val : ℕ) : ℤ) + ((0 + (l 2).val : ℕ) : ℤ)) ((k.val + (l 1).val : ℕ) : ℤ) = _
  push_cast
  congr 1 <;> ring

/-- Every pixel's patch, around the image too. -/
theorem widePatches_is {p : FVec Ideal S266x266 .f32} {φ : ℤ → ℤ → EReal} (hp : Is (m := 266) (n := 266) p φ) (j : S262x262x5x5.Idx) :
    widePatches p j = φ ((j 0).val + (j 2).val) ((j 1).val + (j 3).val) := by
  have h0 : (j 0).val < 262 := (j 0).isLt
  have h1 : (j 1).val < 262 := (j 1).isLt
  have h2 : (j 2).val < 5 := (j 2).isLt
  have h3 : (j 3).val < 5 := (j 3).isLt
  have hv : ∀ l : S262x266x5.Idx, concatenate S262x266x5 2 (List.ofFn fun k : Fin 5 => (⟨S262x266x1,
      broadcastInDim S262x266x1 ![0, 1] bcast_S262x266_S262x266x1_0_1 (extractStridedSlice S262x266 ![k.val, 0] p (s266r k))⟩ : (s : Shape) × (s.Idx → Ideal .f32)))
      concatenates_S262x266x1_S262x266x1_S262x266x1_S262x266x1_S262x266x1_S262x266x5_d2 l = φ ((l 0).val + (l 2).val) (l 1).val := fun l => by
    have h2 : (l 2).val < 5 := (l 2).isLt
    refine (concatenate_ofFn_unit_apply (s₁ := S262x266x1) (t := S262x266x5) (N := 5) 2 _ _ rfl rfl l ⟨(l 2).val, h2⟩ rfl (ValueIdx.ix3 (l 0) (l 1) 0 : S262x266x1.Idx) (fun b hb => by
      match b with
      | ⟨0, _⟩ => rfl
      | ⟨1, _⟩ => rfl
      | ⟨2, _⟩ => exact absurd rfl hb)).trans ?_
    refine (hp _).trans ?_
    show φ (((l 2).val + (l 0).val : ℕ) : ℤ) ((0 + (l 1).val : ℕ) : ℤ) = _
    push_cast
    congr 1 <;> ring
  unfold widePatches
  dsimp only
  refine (concatenate_ofFn_unit_apply (s₁ := S262x262x5x1) (t := S262x262x5x5) (N := 5) 3 _ _ rfl rfl j ⟨(j 3).val, h3⟩ rfl (ValueIdx.ix4 ⟨(j 0).val, h0⟩ ⟨(j 1).val, h1⟩ ⟨(j 2).val, h2⟩ 0 : S262x262x5x1.Idx) (fun b hb => by
    match b with
    | ⟨0, _⟩ => rfl
    | ⟨1, _⟩ => rfl
    | ⟨2, _⟩ => rfl
    | ⟨3, _⟩ => exact absurd rfl hb)).trans ?_
  refine (shifted262 hv _ _).trans ?_
  show φ ((j 0).val + (j 2).val) ((j 3).val + (j 1).val) = _
  rw [add_comm ((j 3).val : ℤ)]

/-- The displaced patches. -/
theorem windowOf_is {w : FVec Ideal S262x262x5x5 .f32} {φ : ℤ → ℤ → EReal} (hw : ∀ j : S262x262x5x5.Idx, w j = φ ((j 0).val + (j 2).val) ((j 1).val + (j 3).val))
    (k : Fin 49) (j : S1x256x256x5x5.Idx) :
    windowOf w k j = φ ((disp k).1.val + (j 1).val + (j 3).val) ((disp k).2.val + (j 2).val + (j 4).val) := by
  refine (hw _).trans ?_
  show φ ((((disp k).1.val + (j 1).val : ℕ) : ℤ) + ((0 + (j 3).val : ℕ) : ℤ)) ((((disp k).2.val + (j 2).val : ℕ) : ℤ) + ((0 + (j 4).val : ℕ) : ℤ)) = _
  push_cast
  congr 1 <;> ring

/-- All of them. -/
theorem windows_is {w : FVec Ideal S262x262x5x5 .f32} {φ : ℤ → ℤ → EReal} (hw : ∀ j : S262x262x5x5.Idx, w j = φ ((j 0).val + (j 2).val) ((j 1).val + (j 3).val))
    (k : Fin 49) (j : S49x256x256x5x5.Idx) (hk : (j 0).val = k.val) :
    windows w j = φ ((disp k).1.val + (j 1).val + (j 3).val) ((disp k).2.val + (j 2).val + (j 4).val) := by
  have hlt := k.isLt
  unfold windows
  refine (concatenate_ofFn_apply (s₁ := S7x256x256x5x5) (t := S49x256x256x5x5) (N := 7) 0 _ _ rfl 7 rfl j ⟨k.val / 7, by omega⟩ (by rw [hk]) (ValueIdx.ix5 ⟨k.val % 7, by omega⟩ (j 1) (j 2) (j 3) (j 4) : S7x256x256x5x5.Idx)
    (by show k.val % 7 = (j 0).val % 7; rw [hk]) (fun b hb => by
    match b with
    | ⟨0, _⟩ => exact absurd rfl hb
    | ⟨1, _⟩ => rfl
    | ⟨2, _⟩ => rfl
    | ⟨3, _⟩ => rfl
    | ⟨4, _⟩ => rfl)).trans ?_
  refine (concatenate_ofFn_unit_apply (s₁ := S1x256x256x5x5) (t := S7x256x256x5x5) (N := 7) 0 _ _ rfl rfl _ ⟨k.val % 7, by omega⟩ rfl (ValueIdx.ix5 0 (j 1) (j 2) (j 3) (j 4) : S1x256x256x5x5.Idx) (fun b hb => by
    match b with
    | ⟨0, _⟩ => exact absurd rfl hb
    | ⟨1, _⟩ => rfl
    | ⟨2, _⟩ => rfl
    | ⟨3, _⟩ => rfl
    | ⟨4, _⟩ => rfl)).trans ?_
  refine (windowOf_is hw _ _).trans ?_
  have e : (⟨7 * (k.val / 7) + k.val % 7, by omega⟩ : Fin 49) = k := Fin.ext (Nat.div_add_mod _ _)
  show φ ((disp ⟨7 * (k.val / 7) + k.val % 7, _⟩).1.val + (j 1).val + (j 3).val) ((disp ⟨7 * (k.val / 7) + k.val % 7, _⟩).2.val + (j 2).val + (j 4).val) = _
  rw [e]

/-- A row's entries. -/
theorem row_is (b : Fin 49 → BitVec 32) (k : Fin 49) (j : S49x1x1.Idx) (hk : (j 0).val = k.val) : row (F := Ideal) b j = Ideal.ofBits .f32 (b k) := by
  have hlt := k.isLt
  unfold row
  refine (concatenate_ofFn_apply (s₁ := S7x1x1) (t := S49x1x1) (N := 7) 0 _ _ rfl 7 rfl j ⟨k.val / 7, by omega⟩ (by rw [hk]) (ValueIdx.ix3 ⟨k.val % 7, by omega⟩ 0 0 : S7x1x1.Idx)
    (by show k.val % 7 = (j 0).val % 7; rw [hk]) (fun b hb => by
    match b with
    | ⟨0, _⟩ => exact absurd rfl hb
    | ⟨1, _⟩ => exact congrArg Fin.val (Subsingleton.elim (α := Fin 1) _ _)
    | ⟨2, _⟩ => exact congrArg Fin.val (Subsingleton.elim (α := Fin 1) _ _))).trans ?_
  refine (concatenate_ofFn_unit_apply (s₁ := S1x1x1) (t := S7x1x1) (N := 7) 0 _ _ rfl rfl _ ⟨k.val % 7, by omega⟩ rfl (ValueIdx.ix3 0 0 0 : S1x1x1.Idx) (fun b hb => by
    match b with
    | ⟨0, _⟩ => exact absurd rfl hb
    | ⟨1, _⟩ => rfl
    | ⟨2, _⟩ => rfl)).trans ?_
  have e : (⟨7 * (k.val / 7) + k.val % 7, by omega⟩ : Fin 49) = k := Fin.ext (Nat.div_add_mod _ _)
  show Ideal.ofBits .f32 (b ⟨7 * (k.val / 7) + k.val % 7, _⟩) = _
  rw [e]

end Cert.RefPix

end
-- ==== Proof.RefSearch.lean ====
/- The reference's search: the costs of all displacements, and the first of least cost. -/
module

public import proofs.«01_k».proof.Proof.RefPix
public import Idealize.ShloMosaic.Lib.Pointwise.Reduce

@[expose] public section

set_option maxRecDepth 16384

noncomputable section

namespace Cert.RefPix

open Cert.ReferenceIdeal Cert.ReferenceIdeal.Gen Idealize.ShloMosaic Cert.Tab Cert.RefFlow

/-! ## Sums along axes -/

theorem zero_first : (constant (F := Ideal) S_ .f32 0x00000000#32) (Shape.Idx.first h_S_) = (0 : EReal) := Ideal.ofBits_zero_f32

/-- A double sum of reals. -/
theorem sum_coe₂ (φ : ℕ → ℕ → ℝ) : (∑ a : Fin 5, ∑ b : Fin 5, ((φ a.val b.val : ℝ) : EReal)) = ((∑ a ∈ Finset.range 5, ∑ b ∈ Finset.range 5, φ a b : ℝ) : EReal) := by
  have h : ∀ a : Fin 5, (∑ b : Fin 5, ((φ a.val b.val : ℝ) : EReal)) = ((∑ b ∈ Finset.range 5, φ a.val b : ℝ) : EReal) := fun a => by
    rw [sum_coe, Fin.sum_univ_eq_sum_range (fun b => φ a.val b) 5]
  rw [Finset.sum_congr rfl fun a _ => h a, sum_coe, Fin.sum_univ_eq_sum_range (fun a => ∑ b ∈ Finset.range 5, φ a b) 5]

/-- A sum over a pixel's patch. -/
theorem patch_sum {x : FVec Ideal S256x256x5x5 .f32} {φ : ℕ → ℕ → ℝ} (j : S256x256.Idx)
    (hx : ∀ i : S256x256x5x5.Idx, (i 0).val = (j 0).val → (i 1).val = (j 1).val → x i = ((φ (i 2).val (i 3).val : ℝ) : EReal)) :
    Host.reduceAdd x (constant (F := Ideal) S_ .f32 0x00000000#32) reducesTo_S256x256x5x5_S256x256_d2_3 h_S_ j
      = ((∑ a ∈ Finset.range 5, ∑ b ∈ Finset.range 5, φ a b : ℝ) : EReal) := by
  refine (Ideal.hostReduceAdd_r4_a23 reducesTo_S256x256x5x5_S256x256_d2_3 x _ j).trans ?_
  rw [zero_first, zero_add]
  refine Eq.trans ?_ (sum_coe₂ φ)
  exact Finset.sum_congr rfl fun a _ => Finset.sum_congr rfl fun b _ => hx _ rfl rfl

/-- The indices over a displacement's pixel. -/
theorem fiber5 (j : S49x256x256.Idx) (i : S49x256x256x5x5.Idx) :
    reducesTo_S49x256x256x5x5_S49x256x256_d3_4.drop i = j ↔ ∃ k : Fin 5 × Fin 5, (ValueIdx.ix5 (j 0) (j 1) (j 2) k.1 k.2 : S49x256x256x5x5.Idx) = i := by
  constructor
  · intro e
    refine ⟨(i 3, i 4), funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    refine funext fun a => Fin.ext ?_
    match a with
    | ⟨0, _⟩ => rfl
    | ⟨1, _⟩ => rfl
    | ⟨2, _⟩ => rfl

/-- A sum over every displaced patch. -/
theorem wide_sum {x : FVec Ideal S49x256x256x5x5 .f32} {φ : Fin 49 → ℤ → ℤ → ℕ → ℕ → ℝ}
    (hx : ∀ (k : Fin 49) (j : S49x256x256x5x5.Idx), (j 0).val = k.val → x j = ((φ k (j 1).val (j 2).val (j 3).val (j 4).val : ℝ) : EReal))
    (k : Fin 49) (j : S49x256x256.Idx) (hk : (j 0).val = k.val) :
    Host.reduceAdd x (constant (F := Ideal) S_ .f32 0x00000000#32) reducesTo_S49x256x256x5x5_S49x256x256_d3_4 h_S_ j
      = ((∑ a ∈ Finset.range 5, ∑ b ∈ Finset.range 5, φ k (j 1).val (j 2).val a b : ℝ) : EReal) := by
  have e : Host.reduceAdd x (constant (F := Ideal) S_ .f32 0x00000000#32) reducesTo_S49x256x256x5x5_S49x256x256_d3_4 h_S_ j
      = (0 : EReal) + ∑ i ∈ Finset.univ.filter (fun i => reducesTo_S49x256x256x5x5_S49x256x256_d3_4.drop i = j), x i := congrArg (· + _) zero_first
  rw [e, zero_add, Finset.sum_filter_eq_sum_of_fiber _ (fun k : Fin 5 × Fin 5 => (ValueIdx.ix5 (j 0) (j 1) (j 2) k.1 k.2 : S49x256x256x5x5.Idx))
    (fun _ _ e => Prod.ext (congrFun e 3) (congrFun e 4)) (fiber5 j) x, Fintype.sum_prod_type]
  refine Eq.trans ?_ (sum_coe₂ fun a b => φ k (j 1).val (j 2).val a b)
  exact Finset.sum_congr rfl fun a _ => Finset.sum_congr rfl fun b _ => hx k _ hk

/-! ## The first of least cost -/

/-- A number as a word. -/
abbrev num (k : Fin 49) : BitVec 32 := BitVec.ofNat 32 k.val

theorem num_toInt (k : Fin 49) : (num k).toInt = k.val := by
  have := k.isLt
  rw [BitVec.toInt_eq_toNat_of_lt (by rw [BitVec.toNat_ofNat, Nat.mod_eq_of_lt (by omega)]; omega), BitVec.toNat_ofNat, Nat.mod_eq_of_lt (by omega)]

theorem num_inj {k l : Fin 49} (h : num k = num l) : k = l := by
  have := congrArg BitVec.toInt h
  rw [num_toInt, num_toInt] at this
  exact Fin.ext (by exact_mod_cast this)

theorem minsi_toInt (a b : BitVec 32) : (IntOp.minsi a b).toInt = min a.toInt b.toInt := by
  unfold IntOp.minsi
  split_ifs with h
  · rw [BitVec.slt_iff_toInt_lt] at h
    exact (min_eq_left h.le).symm
  · rw [BitVec.slt_iff_toInt_lt] at h
    exact (min_eq_right (not_lt.mp h)).symm

theorem fold_toInt (s : Finset (Fin 49)) (b : BitVec 32) (v : Fin 49 → BitVec 32) : (s.fold IntOp.minsi b v).toInt = s.fold min b.toInt fun k => (v k).toInt := by
  induction s using Finset.induction_on with
  | empty => rfl
  | insert a s ha ih => rw [Finset.fold_insert ha, Finset.fold_insert ha, minsi_toInt, ih]

/-- The least of 49 numbers, of which those not of least cost are 49. -/
theorem fold_first (C : Fin 49 → ℝ) (k : Fin 49) (hle : ∀ m, C k ≤ C m) (hlt : ∀ m < k, C k < C m) (v : Fin 49 → BitVec 32)
    (hv : ∀ m, v m = if C m = C k then num m else 49#32) : Finset.univ.fold IntOp.minsi 2147483647#32 v = num k := by
  apply BitVec.eq_of_toInt_eq
  rw [fold_toInt, num_toInt]
  have hk := k.isLt
  apply le_antisymm
  · exact Finset.fold_min_le _ |>.mpr (Or.inr ⟨k, Finset.mem_univ _, by rw [hv, if_pos rfl, num_toInt]⟩)
  · refine (Finset.le_fold_min _).mpr ⟨?_, fun m _ => ?_⟩
    · show ((k.val : ℕ) : ℤ) ≤ 2147483647
      omega
    · rw [hv]
      split_ifs with h
      · rw [num_toInt]
        by_contra hc
        exact absurd h (hlt m (by rw [Fin.lt_def]; omega)).ne'
      · show ((k.val : ℕ) : ℤ) ≤ 49
        omega

theorem order_at (j : S49x1x1.Idx) (k : Fin 49) (hk : (j 0).val = k.val) : order j = num k := by
  show BitVec.ofNat 32 (j 0).val = _
  rw [hk]

/-- The least cost. -/
theorem fold_least (C : Fin 49 → ℝ) (k : Fin 49) (hle : ∀ m, C k ≤ C m) : Finset.univ.fold (min : EReal → EReal → EReal) ⊤ (fun m => ((C m : ℝ) : EReal)) = ((C k : ℝ) : EReal) := by
  apply le_antisymm
  · exact (Finset.fold_min_le _).mpr (Or.inr ⟨k, Finset.mem_univ _, le_rfl⟩)
  · exact (Finset.le_fold_min _).mpr ⟨le_top, fun m _ => EReal.coe_le_coe_iff.mpr (hle m)⟩

/-- A plane repeated for every displacement. -/
theorem spread {α : Type} (r : S256x256.Idx → α) (y x : Fin 256) (j : S49x256x256.Idx) (h1 : (j 1).val = y.val) (h2 : (j 2).val = x.val) :
    broadcastInDim S49x256x256 ![0, 1, 2] bcast_S1x256x256_S49x256x256_0_1_2 (broadcastInDim S1x256x256 ![1, 2] bcast_S256x256_S1x256x256_1_2 r) j = r (ValueIdx.ix2 y x) :=
  congrArg r (funext fun a => Fin.ext (by
    match a with
    | ⟨0, _⟩ => exact h1
    | ⟨1, _⟩ => exact h2))

/-- A row repeated for every pixel. -/
theorem spreadRow {α : Type} (r : S49x1x1.Idx → α) (k : Fin 49) (j : S49x256x256.Idx) (h0 : (j 0).val = k.val) :
    broadcastInDim S49x256x256 ![0, 1, 2] bcast_S49x1x1_S49x256x256_0_1_2 r j = r (ValueIdx.ix3 k 0 0) :=
  congrArg r (funext fun a => Fin.ext (by
    match a with
    | ⟨0, _⟩ => exact h0
    | ⟨1, _⟩ => rfl
    | ⟨2, _⟩ => rfl))

theorem equal_at {s : Shape} (a b : FVec Ideal s .f32) (j : s.Idx) (u v : ℝ) (ha : a j = (u : EReal)) (hb : b j = (v : EReal)) : cmpf .oeq a b j = if u = v then 1#1 else 0#1 := by
  show Ideal.cmp .oeq (a j) (b j) = _
  rw [ha, hb]
  unfold Ideal.cmp
  by_cases h : u = v
  · rw [if_pos h, h]
    simp
  · rw [if_neg h]
    simp [h]

theorem same_at {s : Shape} (a b : IVec s 32) (j : s.Idx) (k l : Fin 49) (ha : a j = num l) (hb : b j = num k) : cmpi .eq a b j = if l = k then 1#1 else 0#1 := by
  show IntOp.cmpi .eq (a j) (b j) = _
  rw [ha, hb]
  unfold IntOp.cmpi
  by_cases h : l = k
  · rw [if_pos h, h]
    simp
  · have : num l ≠ num k := fun e => h (num_inj e)
    rw [if_neg h, beq_eq_false_iff_ne.mpr this]
    rfl

variable {c : FVec Ideal S49x256x256 .f32} {C : Fin 49 → ℤ → ℤ → ℝ}
  (hc : ∀ (k : Fin 49) (j : S49x256x256.Idx), (j 0).val = k.val → c j = ((C k (j 1).val (j 2).val : ℝ) : EReal))

include hc

theorem least_at (y x : Fin 256) (k : Fin 49) (hle : ∀ m, C k y.val x.val ≤ C m y.val x.val) (j : S49x256x256.Idx) (l : Fin 49)
    (h0 : (j 0).val = l.val) (h1 : (j 1).val = y.val) (h2 : (j 2).val = x.val) :
    least c j = if C l y.val x.val = C k y.val x.val then 1#1 else 0#1 := by
  have hm : Host.reduce (FloatOps.minimumf (F := Ideal)) c (constant (F := Ideal) S_ .f32 0x7F800000#32) reducesTo_S49x256x256_S256x256_d0 h_S_ (ValueIdx.ix2 y x : S256x256.Idx)
      = ((C k y.val x.val : ℝ) : EReal) := by
    show Host.reduce (min : EReal → EReal → EReal) c _ reducesTo_S49x256x256_S256x256_d0 h_S_ (ValueIdx.ix2 y x : S256x256.Idx) = _
    rw [Host.reduce_eq_fold, reducesTo_S49x256x256_S256x256_d0.fold_fiber_r3_a0]
    refine Eq.trans ?_ (fold_least (fun m => C m y.val x.val) k hle)
    refine congrArg₂ (fun b f => Finset.fold (min : EReal → EReal → EReal) b f Finset.univ) Spec.w_inf (funext fun m => hc m _ rfl)
  have hj : c j = ((C l y.val x.val : ℝ) : EReal) := by rw [hc l j h0, h1, h2]
  have hb := (spread (Host.reduce (FloatOps.minimumf (F := Ideal)) c (constant (F := Ideal) S_ .f32 0x7F800000#32) reducesTo_S49x256x256_S256x256_d0 h_S_) y x j h1 h2).trans hm
  exact equal_at _ _ j _ _ hj hb

theorem chosen_at (y x : Fin 256) (k : Fin 49) (hle : ∀ m, C k y.val x.val ≤ C m y.val x.val) (hlt : ∀ m < k, C k y.val x.val < C m y.val x.val)
    (j : S49x256x256.Idx) (l : Fin 49) (h0 : (j 0).val = l.val) (h1 : (j 1).val = y.val) (h2 : (j 2).val = x.val) :
    chosen c j = if l = k then 1#1 else 0#1 := by
  have hm : Host.reduce IntOp.minsi (select (least c) (broadcastInDim S49x256x256 ![0, 1, 2] bcast_S49x1x1_S49x256x256_0_1_2 order)
      (broadcastInDim S49x256x256 ![] bcast_S_S49x256x256 (id (constantI S_ 32 49#32)))) (constantI S_ 32 2147483647#32) reducesTo_S49x256x256_S256x256_d0 h_S_
      (ValueIdx.ix2 y x : S256x256.Idx) = num k := by
    rw [Host.reduce_eq_fold, reducesTo_S49x256x256_S256x256_d0.fold_fiber_r3_a0]
    refine fold_first (fun m => C m y.val x.val) k hle hlt _ fun m => ?_
    have hl := least_at hc y x k hle (ix3 m y x) m rfl rfl rfl
    refine (congrArg₂ (fun a b => Scalar.select a b (49#32 : BitVec 32)) hl ((spreadRow order m (ix3 m y x) rfl).trans (order_at _ m rfl))).trans ?_
    unfold Scalar.select
    by_cases h : C m y.val x.val = C k y.val x.val
    · rw [if_pos h, if_pos h]; rfl
    · rw [if_neg h, if_neg h]; rfl
  exact same_at _ _ j k l ((spreadRow order l j h0).trans (order_at _ l rfl)) ((spread _ y x j h1 h2).trans hm)

end Cert.RefPix

end
-- ==== Proof.RefPick.lean ====
/- The reference's costs, and what it picks at the displacement it chooses. -/
module

public import proofs.«01_k».proof.Proof.RefSearch

@[expose] public section

set_option maxRecDepth 16384

noncomputable section

namespace Cert.RefPix

open Cert.ReferenceIdeal Cert.ReferenceIdeal.Gen Idealize.ShloMosaic Cert.Tab Cert.RefFlow

/-- Patches repeated for every displacement. -/
theorem spreadPatch {α : Type} (r : S256x256x5x5.Idx → α) (j : S49x256x256x5x5.Idx) :
    broadcastInDim S49x256x256x5x5 ![0, 1, 2, 3, 4] bcast_S1x256x256x5x5_S49x256x256x5x5_0_1_2_3_4
      (broadcastInDim S1x256x256x5x5 ![1, 2, 3, 4] bcast_S256x256x5x5_S1x256x256x5x5_1_2_3_4 r) j = r (ValueIdx.ix4 (j 1) (j 2) (j 3) (j 4)) :=
  congrArg r (funext fun a => Fin.ext (by
    match a with
    | ⟨0, _⟩ => rfl
    | ⟨1, _⟩ => rfl
    | ⟨2, _⟩ => rfl
    | ⟨3, _⟩ => rfl))

/-- A mask repeated over every patch. -/
theorem spreadMask {α : Type} (r : S49x256x256.Idx → α) (j : S49x256x256x5x5.Idx) :
    broadcastInDim S49x256x256x5x5 ![0, 1, 2, 3, 4] bcast_S49x256x256x1x1_S49x256x256x5x5_0_1_2_3_4
      (broadcastInDim S49x256x256x1x1 ![0, 1, 2] bcast_S49x256x256_S49x256x256x1x1_0_1_2 r) j = r (ValueIdx.ix3 (j 0) (j 1) (j 2)) :=
  congrArg r (funext fun a => Fin.ext (by
    match a with
    | ⟨0, _⟩ => rfl
    | ⟨1, _⟩ => rfl
    | ⟨2, _⟩ => rfl))

/-- A pixel's patch of an image, at an index into all of them. -/
abbrev Patch (t : FVec Ideal S256x256x5x5 .f32) (f : ℤ → ℤ → ℝ) : Prop :=
  ∀ j : S256x256x5x5.Idx, t j = ((f ((j 0).val - 2 + (j 2).val) ((j 1).val - 2 + (j 3).val) : ℝ) : EReal)

/-- The displaced patches of an image. -/
abbrev Wide (ws : FVec Ideal S49x256x256x5x5 .f32) (g : ℤ → ℤ → ℝ) : Prop :=
  ∀ (k : Fin 49) (j : S49x256x256x5x5.Idx), (j 0).val = k.val →
    ws j = ((Spec.shift g (Spec.disp k) ((j 1).val - 2 + (j 3).val) ((j 2).val - 2 + (j 4).val) : ℝ) : EReal)

theorem costs_is {t : FVec Ideal S256x256x5x5 .f32} {ws : FVec Ideal S49x256x256x5x5 .f32} {f g : ℤ → ℤ → ℝ} (ht : Patch t f) (hw : Wide ws g)
    (k : Fin 49) (j : S49x256x256.Idx) (hk : (j 0).val = k.val) :
    costs t ws j = ((Spec.cost f g (Spec.disp k) (j 1).val (j 2).val : ℝ) : EReal) :=
  wide_sum (φ := fun k y x a b => |Spec.shift g (Spec.disp k) (y - 2 + a) (x - 2 + b) - f (y - 2 + a) (x - 2 + b)|) (fun k j hk => by
    refine (congrArg₂ (fun u v : EReal => max (u - v) (-(u - v))) (hw k j hk) ((spreadPatch t j).trans (ht _))).trans ?_
    rw [← EReal.coe_sub]
    exact abs_coe _) k j hk

/-- The mask of the displacement chosen at a pixel. -/
abbrev Mask (ch : IVec S49x256x256 1) (k : Fin 49) (y x : ℕ) : Prop :=
  ∀ (l : Fin 49) (j : S49x256x256.Idx), (j 0).val = l.val → (j 1).val = y → (j 2).val = x → ch j = if l = k then 1#1 else 0#1

/-- A sum over a mask of a single element. -/
theorem sum_one (v : Fin 49 → EReal) (c : Fin 49 → BitVec 1) (k : Fin 49) (hc : ∀ l, c l = if l = k then 1#1 else 0#1) :
    (∑ l, Scalar.select (c l) (v l) (Ideal.ofBits .f32 0x00000000#32)) = v k := by
  rw [Finset.sum_eq_single k]
  · unfold Scalar.select
    rw [hc, if_pos rfl]
    exact if_pos rfl
  · intro l _ hl
    unfold Scalar.select
    rw [hc, if_neg hl]
    exact (if_neg (by decide)).trans Ideal.ofBits_zero_f32
  · exact fun h => absurd (Finset.mem_univ k) h

theorem pickPatch_is {ch : IVec S49x256x256 1} {ws : FVec Ideal S49x256x256x5x5 .f32} {g : ℤ → ℤ → ℝ} (hw : Wide ws g) (k : Fin 49) (j : S256x256x5x5.Idx)
    (hch : Mask ch k (j 0).val (j 1).val) :
    pickPatch ch ws j = ((Spec.shift g (Spec.disp k) ((j 0).val - 2 + (j 2).val) ((j 1).val - 2 + (j 3).val) : ℝ) : EReal) := by
  refine (Ideal.hostReduceAdd_r5_a0 reducesTo_S49x256x256x5x5_S256x256x5x5_d0 _ _ j).trans ?_
  rw [zero_first, zero_add]
  refine Eq.trans ?_ (hw k (ValueIdx.ix5 k (j 0) (j 1) (j 2) (j 3)) rfl)
  refine Eq.trans ?_ (sum_one (fun l => ws (ValueIdx.ix5 l (j 0) (j 1) (j 2) (j 3))) (fun l => ch (ValueIdx.ix3 l (j 0) (j 1))) k fun l => hch l _ rfl rfl rfl)
  exact Finset.sum_congr rfl fun l _ => congrArg₂ (fun c v => Scalar.select c v (Ideal.ofBits .f32 0x00000000#32)) (spreadMask ch _) rfl

theorem pickRow_is {ch : IVec S49x256x256 1} {r : FVec Ideal S49x1x1 .f32} {w : Fin 49 → EReal} (hr : ∀ (l : Fin 49) (j : S49x1x1.Idx), (j 0).val = l.val → r j = w l)
    (k : Fin 49) (j : S256x256.Idx) (hch : Mask ch k (j 0).val (j 1).val) : pickRow ch r j = w k := by
  refine (Ideal.hostReduceAdd_r3_a0 reducesTo_S49x256x256_S256x256_d0 _ _ j).trans ?_
  rw [zero_first, zero_add]
  refine Eq.trans ?_ (sum_one w (fun l => ch (ValueIdx.ix3 l (j 0) (j 1))) k fun l => hch l _ rfl rfl rfl)
  exact Finset.sum_congr rfl fun l _ => congrArg (fun v => Scalar.select (ch (ValueIdx.ix3 l (j 0) (j 1))) v (Ideal.ofBits .f32 0x00000000#32)) ((spreadRow r l _ rfl).trans (hr l _ rfl))

theorem word_is (a : Fin 7) : Ideal.ofBits .f32 (word a) = ((3 - (a.val : ℝ) : ℝ) : EReal) := by
  fin_cases a
  · exact Spec.w_three.trans (congrArg _ (by norm_num))
  · exact Spec.w_two.trans (congrArg _ (by norm_num))
  · exact Spec.w_one.trans (congrArg _ (by norm_num))
  · exact Spec.w_zero.trans (congrArg _ (by norm_num))
  · exact Spec.w_neg1.trans (congrArg _ (by norm_num))
  · exact Spec.w_neg2.trans (congrArg _ (by norm_num))
  · exact Spec.w_neg3.trans (congrArg _ (by norm_num))

/-- At every pixel the reference chooses the search's choice. -/
theorem mask_is {t : FVec Ideal S256x256x5x5 .f32} {ws : FVec Ideal S49x256x256x5x5 .f32} {f g : ℤ → ℤ → ℝ} (ht : Patch t f) (hw : Wide ws g) (y x : Fin 256) :
    ∃ k : Fin 49, Spec.disp k = Spec.best f g y.val x.val ∧ Mask (chosen (costs t ws)) k y.val x.val := by
  obtain ⟨k, hk, hle, hlt⟩ := Spec.pick_first fun d => Spec.cost f g d y.val x.val
  exact ⟨k, hk, fun l j h0 h1 h2 => chosen_at (C := fun k y x => Spec.cost f g (Spec.disp k) y x) (costs_is ht hw) y x k hle hlt j l h0 h1 h2⟩

end Cert.RefPix

end
-- ==== Proof.RefVal.lean ====
/- The reference's flow before the median, as the common meaning. -/
module

public import proofs.«01_k».proof.Proof.RefPick

@[expose] public section

set_option maxRecDepth 16384

noncomputable section

namespace Cert.RefPix

open Cert.ReferenceIdeal Cert.ReferenceIdeal.Gen Idealize.ShloMosaic Cert.Tab Cert.RefFlow

/-! ## Gradients -/

theorem over255 (r : ℝ) : Ideal.div (r : EReal) (Ideal.ofBits .f32 0x437F0000#32) = ((r * (1 / 255) : ℝ) : EReal) := by
  rw [Spec.w_255, Ideal.div_coe (by norm_num), EReal.coe_mul]

theorem halved (r : ℝ) : Ideal.div (r : EReal) (Ideal.ofBits .f32 0x40000000#32) = ((r * (1 / 2) : ℝ) : EReal) := by
  rw [Spec.w_two, Ideal.div_coe (by norm_num), EReal.coe_mul]

theorem unit_is {x : FVec Ideal S256x256 .f32} {φ : ℤ → ℤ → ℝ} (hx : IsR (m := 256) (n := 256) x φ) :
    IsR (m := 256) (n := 256) (unit x) fun r c => φ r c * (1 / 255) := fun j =>
  (congrArg (fun v => Ideal.div v (Ideal.ofBits .f32 0x437F0000#32)) (hx j)).trans (over255 _)

theorem gradY_is {x : FVec Ideal S256x256 .f32} {φ : ℤ → ℤ → ℝ} (hx : IsR (m := 256) (n := 256) x φ) :
    IsR (m := 256) (n := 256) (gradY (edge (unit x))) fun r c => Spec.GY φ r c * (1 / 510) := fun j => by
  have h0 := lt0 (m := 256) (n := 256) j
  have h1 := lt1 (m := 256) (n := 256) j
  have p := (edge_is (unit_is hx)).slice (m' := 256) (n' := 256) (a := 2) (b := 1) (by decide) j
  have q := (edge_is (unit_is hx)).slice (m' := 256) (n' := 256) (a := 0) (b := 1) (by decide) j
  refine (congrArg₂ (fun u v : EReal => Ideal.div (u - v) (Ideal.ofBits .f32 0x40000000#32)) p q).trans ?_
  beta_reduce
  rw [← EReal.coe_sub, halved]
  unfold Spec.GY
  rw [if_pos ⟨by omega, by omega, by omega, by omega⟩]
  have e0 : near (((2 : ℕ) : ℤ) + ((j 0).val : ℤ) - 1) = min (((j 0).val : ℤ) + 1) 255 := by unfold near; omega
  have e1 : near (((0 : ℕ) : ℤ) + ((j 0).val : ℤ) - 1) = max (((j 0).val : ℤ) - 1) 0 := by unfold near; omega
  have e2 : near (((1 : ℕ) : ℤ) + ((j 1).val : ℤ) - 1) = ((j 1).val : ℤ) := by unfold near; omega
  rw [e0, e1, e2]
  congr 1
  ring

theorem gradX_is {x : FVec Ideal S256x256 .f32} {φ : ℤ → ℤ → ℝ} (hx : IsR (m := 256) (n := 256) x φ) :
    IsR (m := 256) (n := 256) (gradX (edge (unit x))) fun r c => Spec.GX φ r c * (1 / 510) := fun j => by
  have h0 := lt0 (m := 256) (n := 256) j
  have h1 := lt1 (m := 256) (n := 256) j
  have p := (edge_is (unit_is hx)).slice (m' := 256) (n' := 256) (a := 1) (b := 2) (by decide) j
  have q := (edge_is (unit_is hx)).slice (m' := 256) (n' := 256) (a := 1) (b := 0) (by decide) j
  refine (congrArg₂ (fun u v : EReal => Ideal.div (u - v) (Ideal.ofBits .f32 0x40000000#32)) p q).trans ?_
  beta_reduce
  rw [← EReal.coe_sub, halved]
  unfold Spec.GX
  rw [if_pos ⟨by omega, by omega, by omega, by omega⟩]
  have e0 : near (((2 : ℕ) : ℤ) + ((j 1).val : ℤ) - 1) = min (((j 1).val : ℤ) + 1) 255 := by unfold near; omega
  have e1 : near (((0 : ℕ) : ℤ) + ((j 1).val : ℤ) - 1) = max (((j 1).val : ℤ) - 1) 0 := by unfold near; omega
  have e2 : near (((1 : ℕ) : ℤ) + ((j 0).val : ℤ) - 1) = ((j 0).val : ℤ) := by unfold near; omega
  rw [e0, e1, e2]
  congr 1
  ring

/-! ## Patches around pixels -/

theorem patch_is {x : FVec Ideal S256x256 .f32} {φ : ℤ → ℤ → ℝ} (hx : IsR (m := 256) (n := 256) x φ) (hz : ∀ y x, ¬ Spec.In y x → φ y x = 0) :
    Patch (patches (pad2 x)) φ := fun j => by
  refine (patches_is (pad_is (e := 2) (m' := 260) hx pads_S256x256_S260x260_220_220 h_S_ hz) j).trans ?_
  beta_reduce
  congr 2 <;> omega

theorem wide_is {x : FVec Ideal S256x256 .f32} {φ : ℤ → ℤ → ℝ} (hx : IsR (m := 256) (n := 256) x φ) (hz : ∀ y x, ¬ Spec.In y x → φ y x = 0) :
    Wide (windows (widePatches (pad5 x))) φ := fun k j hk => by
  refine (windows_is (widePatches_is (pad_is (e := 5) (m' := 266) hx pads_S256x256_S266x266_550_550 h_S_ hz)) k j hk).trans ?_
  beta_reduce
  unfold Spec.shift
  have e : RefFlow.disp k = Spec.disp k := rfl
  rw [e]
  congr 2 <;> omega

/-! ## Border sums -/

theorem mask_at (a b : Fin 5) : mask (F := Ideal) (ValueIdx.ix2 a b) = (((if (1 ≤ a.val ∧ a.val ≤ 3) ∧ 1 ≤ b.val ∧ b.val ≤ 3 then 0 else 1 : ℝ)) : EReal) := by
  unfold mask pad
  by_cases hin : (1 ≤ a.val ∧ a.val ≤ 3) ∧ 1 ≤ b.val ∧ b.val ≤ 3
  · rw [if_pos hin, dif_pos]
    · exact Spec.w_zero
    · intro k
      match k with
      | ⟨0, _⟩ =>
        refine ⟨hin.1.1, Nat.mod_one _, ?_⟩
        show (a.val - 1) / (0 + 1) < 3; rw [Nat.div_one]; omega
      | ⟨1, _⟩ =>
        refine ⟨hin.2.1, Nat.mod_one _, ?_⟩
        show (b.val - 1) / (0 + 1) < 3; rw [Nat.div_one]; omega
  · rw [if_neg hin, dif_neg]
    · exact Spec.w_one
    · intro h
      refine hin ?_
      have h0 : 1 ≤ a.val ∧ (a.val - 1) % (0 + 1) = 0 ∧ (a.val - 1) / (0 + 1) < 3 := h 0
      have h1 : 1 ≤ b.val ∧ (b.val - 1) % (0 + 1) = 0 ∧ (b.val - 1) / (0 + 1) < 3 := h 1
      rw [Nat.div_one] at h0 h1
      omega

/-- A sum over the border is the whole sum less the middle's. -/
theorem border_sum (p : ℤ → ℤ → ℝ) (y x : ℤ) :
    (∑ a ∈ Finset.range 5, ∑ b ∈ Finset.range 5, p (y - 2 + (a : ℤ)) (x - 2 + (b : ℤ)) * (if (1 ≤ a ∧ a ≤ 3) ∧ 1 ≤ b ∧ b ≤ 3 then 0 else 1 : ℝ)) = Spec.brd p y x := by
  have h3 : Spec.sum3 p y x = ∑ a ∈ Finset.range 3, ∑ b ∈ Finset.range 3, p (y - 2 + ((a + 1 : ℕ) : ℤ)) (x - 2 + ((b + 1 : ℕ) : ℤ)) :=
    Finset.sum_congr rfl fun a _ => Finset.sum_congr rfl fun b _ => by congr 1 <;> omega
  unfold Spec.brd
  rw [h3]
  unfold Spec.sum5
  generalize y - 2 = y
  generalize x - 2 = x
  simp [Finset.sum_range_succ]
  ring

/-- A five-by-five array repeated at every pixel. -/
theorem spreadFive {α : Type} (r : S5x5.Idx → α) (j : S256x256x5x5.Idx) :
    broadcastInDim S256x256x5x5 ![0, 1, 2, 3] bcast_S1x1x5x5_S256x256x5x5_0_1_2_3 (broadcastInDim S1x1x5x5 ![2, 3] bcast_S5x5_S1x1x5x5_2_3 r) j = r (ValueIdx.ix2 (j 2) (j 3)) :=
  congrArg r (funext fun a => Fin.ext (by
    match a with
    | ⟨0, _⟩ => rfl
    | ⟨1, _⟩ => rfl))

theorem border_at {x : FVec Ideal S256x256x5x5 .f32} {p : ℤ → ℤ → ℝ} (j : S256x256.Idx)
    (hx : ∀ i : S256x256x5x5.Idx, (i 0).val = (j 0).val → (i 1).val = (j 1).val → x i = ((p ((i 0).val - 2 + (i 2).val) ((i 1).val - 2 + (i 3).val) : ℝ) : EReal)) :
    border x j = ((Spec.brd p (j 0).val (j 1).val : ℝ) : EReal) := by
  rw [← border_sum]
  refine patch_sum j fun i h0 h1 => ?_
  refine (congrArg₂ (fun u v : EReal => u * v) (hx i h0 h1) ((spreadFive _ i).trans (mask_at _ _))).trans ?_
  rw [← EReal.coe_mul, h0, h1]

/-- Border sums of differences of products, the scale taken out. -/
theorem brd_cross (a b e : ℤ → ℤ → ℝ) (y x : ℤ) :
    Spec.brd (fun y x => (a y x * (1 / 255) - b y x * (1 / 255)) * (e y x * (1 / 510))) y x
      = (Spec.brd (fun y x => a y x * e y x) y x - Spec.brd (fun y x => b y x * e y x) y x) * (1 / 130050) := by
  have h : ∀ y x, (a y x * (1 / 255) - b y x * (1 / 255)) * (e y x * (1 / 510)) = (a y x * e y x - b y x * e y x) * (1 / 130050) := fun y x => by ring
  simp only [Spec.brd, Spec.sum5, Spec.sum3, h, ← Finset.sum_mul, Finset.sum_sub_distrib]
  ring

theorem brd_gram (a b : ℤ → ℤ → ℝ) (y x : ℤ) :
    Spec.brd (fun y x => (a y x * (1 / 510)) * (b y x * (1 / 510))) y x = Spec.brd (fun y x => a y x * b y x) y x * (1 / 260100) := by
  have h : ∀ y x, (a y x * (1 / 510)) * (b y x * (1 / 510)) = (a y x * b y x) * (1 / 260100) := fun y x => by ring
  simp only [Spec.brd, Spec.sum5, Spec.sum3, h, ← Finset.sum_mul]
  ring

end Cert.RefPix

end
-- ==== Proof.RefFlowVal.lean ====
/- The reference's result, as the common meaning. -/
module

public import proofs.«01_k».proof.Proof.RefVal
public import proofs.«01_k».proof.Proof.Median

@[expose] public section

set_option maxRecDepth 16384

noncomputable section

namespace Cert.RefPix

open Cert.ReferenceIdeal Cert.ReferenceIdeal.Gen Idealize.ShloMosaic Cert.Tab Cert.RefFlow

/-! ## The flow -/

/-- The last step at a pixel: the chosen displacement's component plus the system's solution. -/
theorem row_step (a b d p q w : FVec Ideal S256x256 .f32) (j : S256x256.Idx) :
    addf w (clear (subf (mulf a d) (mulf b b)) (Host.divf (subf (mulf a q) (mulf b p)) (safe (subf (mulf a d) (mulf b b))))) j
      = w j + (Spec.solve (a j) (b j) (d j) (p j) (q j)).1 := rfl

theorem col_step (a b d p q w : FVec Ideal S256x256 .f32) (j : S256x256.Idx) :
    addf w (clear (subf (mulf a d) (mulf b b)) (Host.divf (subf (mulf d p) (mulf b q)) (safe (subf (mulf a d) (mulf b b))))) j
      = w j + (Spec.solve (a j) (b j) (d j) (p j) (q j)).2 := rfl

theorem gram_at {u v : FVec Ideal S256x256x5x5 .f32} {φ ψ : ℤ → ℤ → ℝ} (hu : Patch u fun y x => φ y x * (1 / 510)) (hv : Patch v fun y x => ψ y x * (1 / 510))
    (j : S256x256.Idx) : border (mulf u v) j = Spec.gram (1 / 260100) φ ψ (j 0).val (j 1).val := by
  refine (border_at j fun i _ _ => ?_).trans (congrArg _ (brd_gram φ ψ _ _))
  exact (congrArg₂ (fun a b : EReal => a * b) (hu i) (hv i)).trans (EReal.coe_mul _ _).symm

theorem cross_at {t v : FVec Ideal S256x256x5x5 .f32} {ws : FVec Ideal S49x256x256x5x5 .f32} {ch : IVec S49x256x256 1} {f g φ : ℤ → ℤ → ℝ} (ht : Patch t f) (hw : Wide ws g)
    (hv : Patch v fun y x => φ y x * (1 / 510)) (k : Fin 49) (j : S256x256.Idx) (hch : Mask ch k (j 0).val (j 1).val) :
    border (mulf (subf (unitP (pickPatch ch ws)) (unitP t)) v) j = Spec.cross f g (Spec.disp k) φ (j 0).val (j 1).val := by
  refine (border_at (p := fun y x => (Spec.shift g (Spec.disp k) y x * (1 / 255) - f y x * (1 / 255)) * (φ y x * (1 / 510))) j fun i h0 h1 => ?_).trans (congrArg _ (brd_cross _ f φ _ _))
  have hp := pickPatch_is hw k i (by rw [h0, h1]; exact hch)
  refine (congrArg₂ (fun a b : EReal => a * b) (congrArg₂ (fun a b : EReal => Ideal.div a (Ideal.ofBits .f32 0x437F0000#32) - Ideal.div b (Ideal.ofBits .f32 0x437F0000#32)) hp (ht i)) (hv i)).trans ?_
  beta_reduce
  rw [over255, over255, ← EReal.coe_sub, ← EReal.coe_mul]

theorem GY_zero (z : ℤ → ℤ → ℝ) (y x : ℤ) (h : ¬ Spec.In y x) : Spec.GY z y x * (1 / 510) = 0 := by
  unfold Spec.GY
  rw [if_neg h, zero_mul]

theorem GX_zero (z : ℤ → ℤ → ℝ) (y x : ℤ) (h : ¬ Spec.In y x) : Spec.GX z y x * (1 / 510) = 0 := by
  unfold Spec.GX
  rw [if_neg h, zero_mul]

theorem Z_zero (f : Spec.Img) (y x : ℤ) (h : ¬ Spec.In y x) : Spec.Z f y x = 0 := if_neg h

theorem flow_at (f g : Spec.Img) (j : S256x256.Idx) :
    (flow (F := Ideal) (image (F := Ideal) f) (image (F := Ideal) g)).1 j = Spec.flowY (Spec.Z f) (Spec.Z g) (j 0).val (j 1).val ∧
    (flow (F := Ideal) (image (F := Ideal) f) (image (F := Ideal) g)).2 j = Spec.flowX (Spec.Z f) (Spec.Z g) (j 0).val (j 1).val := by
  have hf := quant_is f
  have ht := patch_is hf (Z_zero f)
  have hw := wide_is (quant_is g) (Z_zero g)
  have hy := patch_is (gradY_is hf) (GY_zero _)
  have hx := patch_is (gradX_is hf) (GX_zero _)
  obtain ⟨k, hk, hch⟩ := mask_is ht hw (j 0) (j 1)
  have ha := gram_at hx hx j
  have hb := gram_at hx hy j
  have hd := gram_at hy hy j
  have hp := cross_at ht hw hx k j hch
  have hq := cross_at ht hw hy k j hch
  have h1 := (pickRow_is (r := row fun k => word (RefFlow.disp k).1) (fun l i h => row_is _ l i h) k j hch).trans (word_is _)
  have h2 := (pickRow_is (r := row fun k => word (RefFlow.disp k).2) (fun l i h => row_is _ l i h) k j hch).trans (word_is _)
  have e : RefFlow.disp k = Spec.best (Spec.Z f) (Spec.Z g) (j 0).val (j 1).val := hk
  rw [hk] at hp hq
  rw [e] at h1 h2
  constructor
  · refine (row_step _ _ _ _ _ _ j).trans ?_
    rw [ha, hb, hd, hp, hq, h1]
    rfl
  · refine (col_step _ _ _ _ _ _ j).trans ?_
    rw [ha, hb, hd, hp, hq, h2]
    rfl

/-! ## The median -/

theorem neighbour {p : FVec Ideal S258x258 .f32} {φ : ℤ → ℤ → EReal} (hp : Is (m := 258) (n := 258) p φ) (a b : Fin 3) (l : S1x256x256.Idx) :
    broadcastInDim S1x256x256 ![1, 2] bcast_S256x256_S1x256x256_1_2 (extractStridedSlice S256x256 ![a.val, b.val] p (s258 a b)) l
      = φ ((a.val : ℤ) + (l 1).val) ((b.val : ℤ) + (l 2).val) := by
  refine (hp _).trans ?_
  exact congrArg₂ φ (Nat.cast_add _ _) (Nat.cast_add _ _)

theorem nine_is {p : FVec Ideal S258x258 .f32} {φ : ℤ → ℤ → EReal} (hp : Is (m := 258) (n := 258) p φ) (k : Fin 9) (j : S9x256x256.Idx) (hk : (j 0).val = k.val) :
    nine p j = φ (((k.val / 3 : ℕ) : ℤ) + (j 1).val) (((k.val % 3 : ℕ) : ℤ) + (j 2).val) := by
  unfold nine
  refine (concatenate_ofFn_unit_apply (s₁ := S1x256x256) (t := S9x256x256) (N := 9) 0 _ _ rfl rfl j k hk (ValueIdx.ix3 0 (j 1) (j 2) : S1x256x256.Idx) ?_).trans ?_
  · intro a ha
    match a with
    | ⟨0, _⟩ => exact absurd rfl ha
    | ⟨1, _⟩ => rfl
    | ⟨2, _⟩ => rfl
  · exact neighbour hp ⟨k.val / 3, by omega⟩ ⟨k.val % 3, by omega⟩ _

/-- A number's sorting key is itself. -/
theorem key_is (c x : EReal) :
    Scalar.select (Ideal.cmp .une x x) c (Scalar.select (Ideal.cmp .oeq x (Ideal.ofBits .f32 0x00000000#32)) (Ideal.ofBits .f32 0x00000000#32) x) = x := by
  generalize Ideal.ofBits .f32 0x00000000#32 = z
  unfold Scalar.select Ideal.cmp
  rw [if_neg (by simp)]
  by_cases h : x = z
  · rw [if_pos (by simp [h]), h]
  · rw [if_neg (by simp [h])]

/-- The sort's comparator is the order. -/
theorem before_is (x y : EReal) : (comparator_f32_d0 (F := Ideal) x y == 1#1) = decide (x < y) := by
  have e : comparator_f32_d0 (F := Ideal) x y = Ideal.cmp .olt x y := congrArg₂ (Ideal.cmp .olt) (key_is _ x) (key_is _ y)
  rw [e]
  unfold Ideal.cmp
  by_cases h : x < y
  · simp [h]
  · simp [h]

/-- The fifth of nine sorted planes. -/
theorem fifth_is {v : FVec Ideal S9x256x256 .f32} {χ : Fin 9 → EReal} (j : S9x256x256.Idx) (h0 : (j 0).val = 4) (hv : ∀ k, v (j.along 0 k) = χ k) :
    Host.sort S9x256x256 0 (comparator_f32_d0 (F := Ideal)) v j = Cert.Flow.net9 χ := by
  have hj : j 0 = (4 : Fin 9) := Fin.ext h0
  have hs : Host.sort S9x256x256 0 (comparator_f32_d0 (F := Ideal)) v j
      = v (j.along 0 (sortedFrom (fun k k' => comparator_f32_d0 (F := Ideal) (v (j.along 0 k)) (v (j.along 0 k')) == 1#1) (j 0))) := rfl
  rw [hs, hj, hv]
  exact Cert.Flow.sortedFrom_net9 χ _ fun k k' => (before_is _ _).trans (congrArg₂ (fun a b : EReal => decide (a < b)) (hv k) (hv k'))

theorem median_is {x : FVec Ideal S256x256 .f32} {φ : ℤ → ℤ → EReal} (hx : Is (m := 256) (n := 256) x φ) :
    Is (m := 256) (n := 256) (median x) (Spec.med φ) := fun j => by
  unfold median
  refine (shapeCast_apply _ _ j (ValueIdx.ix3 0 (j 0) (j 1) : S1x256x256.Idx) ?_).trans ?_
  · rw [Shape.rowMajor_val_two, Shape.rowMajor_val_three]
    simp only [ValueIdx.ix3]
    simp
  · refine fifth_is _ rfl fun k => ?_
    refine (nine_is (edge_is hx) k _ rfl).trans ?_
    beta_reduce
    show φ (near (((k.val / 3 : ℕ) : ℤ) + (0 + (j 0).val : ℕ) - 1)) (near (((k.val % 3 : ℕ) : ℤ) + (0 + (j 1).val : ℕ) - 1)) = _
    unfold near
    congr 3 <;> omega

/-! ## The result -/

/-- Two planes, one after the other. -/
theorem two_planes {p q : FVec Ideal S256x256 .f32} {φ ψ : ℤ → ℤ → EReal} (hp : Is (m := 256) (n := 256) p φ) (hq : Is (m := 256) (n := 256) q ψ) (j : S2x256x256.Idx) :
    concatenate S2x256x256 0 [⟨S1x256x256, broadcastInDim S1x256x256 ![1, 2] bcast_S256x256_S1x256x256_1_2 p⟩,
      ⟨S1x256x256, broadcastInDim S1x256x256 ![1, 2] bcast_S256x256_S1x256x256_1_2 q⟩] concatenates_S1x256x256_S1x256x256_S2x256x256_d0 j
      = if (j 0).val = 0 then φ (j 1).val (j 2).val else ψ (j 1).val (j 2).val := by
  refine (concatenate_ofFn_unit_apply (s₁ := S1x256x256) (t := S2x256x256) (N := 2) 0
    ![broadcastInDim S1x256x256 ![1, 2] bcast_S256x256_S1x256x256_1_2 p, broadcastInDim S1x256x256 ![1, 2] bcast_S256x256_S1x256x256_1_2 q]
    concatenates_S1x256x256_S1x256x256_S2x256x256_d0 rfl rfl j (j 0) rfl (ValueIdx.ix3 0 (j 1) (j 2) : S1x256x256.Idx) ?_).trans ?_
  · intro a ha
    match a with
    | ⟨0, _⟩ => exact absurd rfl ha
    | ⟨1, _⟩ => rfl
    | ⟨2, _⟩ => rfl
  · generalize h : (j 0 : Fin 2) = k
    match k with
    | ⟨0, _⟩ =>
      rw [if_pos rfl]
      exact hp _
    | ⟨1, _⟩ =>
      rw [if_neg Nat.one_ne_zero]
      exact hq _

/-- The reference's result is the common meaning. -/
theorem result_is (f g : Spec.Img) (j : S2x256x256.Idx) :
    result (F := Ideal) f g j = if (j 0).val = 0 then Spec.med (Spec.flowY (Spec.Z f) (Spec.Z g)) (j 1).val (j 2).val
      else Spec.med (Spec.flowX (Spec.Z f) (Spec.Z g)) (j 1).val (j 2).val :=
  two_planes (median_is fun j => (flow_at f g j).1) (median_is fun j => (flow_at f g j).2) j

/-- With the result's leading unit dimension. -/
theorem lead {α : Type} (v : S2x256x256.Idx → α) (j : S1x2x256x256.Idx) :
    broadcastInDim S1x2x256x256 ![1, 2, 3] bcast_S2x256x256_S1x2x256x256_1_2_3 v j = v (ValueIdx.ix3 (j 1) (j 2) (j 3)) :=
  congrArg v (funext fun a => Fin.ext (by
    match a with
    | ⟨0, _⟩ => rfl
    | ⟨1, _⟩ => rfl
    | ⟨2, _⟩ => rfl))

end Cert.RefPix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Assemble
public import proofs.«01_k».proof.Proof.RefFlowVal
public import Idealize.ShloMosaic.Adequacy
public import Idealize.ShloMosaic.Init

@[expose] public section

noncomputable section

namespace Cert.Proof

open Idealize.ShloMosaic Idealize.SL.Sem Cert.Kernel

/-- The reference's result, with its leading unit dimension, is the common meaning. -/
theorem result_out (f g : Cert.Spec.Img) :
    broadcastInDim Cert.ReferenceIdeal.S1x2x256x256 ![1, 2, 3] Cert.ReferenceIdeal.Facts₀.bcast_S2x256x256_S1x2x256x256_1_2_3 (Cert.RefFlow.result (F := Ideal) f g)
      = Cert.Stage.out f g := funext fun j => (Cert.RefPix.lead (Cert.RefFlow.result (F := Ideal) f g) j).trans (Cert.RefPix.result_is f g _)

/-- What the reference's run leaves is the common meaning of its arguments. -/
theorem reference_out (V0 : Valuation Cert.ReferenceIdeal.τ Cert.ReferenceIdeal.sig (Elt Ideal)) :
    broadcastInDim Cert.ReferenceIdeal.S1x2x256x256 ![1, 2, 3] Cert.ReferenceIdeal.Facts₀.bcast_S2x256x256_S1x2x256x256_1_2_3 (Cert.ReferenceIdeal.Value.res_main_v430 (F := Ideal) V0)
      = Cert.Stage.out (V0 (Proc.devRef .tc Cert.ReferenceIdeal.main_arg0)) (V0 (Proc.devRef .tc Cert.ReferenceIdeal.main_arg1)) :=
  (congrArg (broadcastInDim Cert.ReferenceIdeal.S1x2x256x256 ![1, 2, 3] Cert.ReferenceIdeal.Facts₀.bcast_S2x256x256_S1x2x256x256_1_2_3) (Cert.RefFlow.res_eq V0)).trans (result_out _ _)

/-- On equal arguments the kernel and the reference leave equal results. -/
theorem algebraic : Cert.algebraic_KernelIdeal_ReferenceIdeal (hKernelIdeal := Cert.KernelIdeal.Gen.facts) (hReferenceIdeal := Cert.ReferenceIdeal.Gen.facts) :=
  fun m ρ m' ρ' _ hag => ⟨fun c => Cert.Stage.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.Stage.final m c), (h c).2⟩) (Cert.KernelIdeal.Value.run_blocks m ρ),
    (θ_run _ _ _).mono (fun _ h c => ⟨(h c).1.trans ((reference_out (StableHlo.launchContents m' c)).trans (congrArg₂ Cert.Stage.out (hag c).1 (hag c).2)), (h c).2⟩) (Cert.ReferenceIdeal.Value.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  ⟨IdealRules.named_const.statement Cert.KernelIdeal.κ "gradient_scale" .f32 0x36810182#32 ((1 / 260100 : ℝ) : EReal) rfl,
    IdealRules.named_const.statement Cert.KernelIdeal.κ "product_scale" .f32 0x37010182#32 ((1 / 130050 : ℝ) : EReal) rfl⟩,
  algebraic⟩

end Cert.Proof

end
